-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![4096, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![4096, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  bcast_S_S256x16 : S_.BroadcastsInDim S256x16 (![] : Fin 0 → Fin S256x16.rank)
  bcast_S_S1024x1 : S_.BroadcastsInDim S1024x1 (![] : Fin 0 → Fin S1024x1.rank)

variable [Facts]

def fn {F : FTy → Type} [FloatOps F] (main_arg0 : FVec F S1024x256 .f32) (main_arg1 : FVec F S256x16 .f32) (main_arg2 : IVec S1024x1 32) (main_arg3 : FVec F S4x256x512 .f32) (main_arg4 : FVec F S256x512 .f32) : IVec S1024x256 1 × IVec S256x16 1 × IVec S1024x1 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  let main_c : IVec S_ 32 := constantI S_ 32 0#32
  let main_v6 : IVec S1024x1 32 := broadcastInDim S1024x1 ![] bcast_S_S1024x1 main_c
  let main_v7 : IVec S1024x1 1 := cmpi .sge main_arg2 main_v6
  let main_c_1 : IVec S_ 32 := constantI S_ 32 16#32
  let main_v8 : IVec S1024x1 32 := broadcastInDim S1024x1 ![] bcast_S_S1024x1 main_c_1
  let main_v9 : IVec S1024x1 1 := cmpi .slt main_arg2 main_v8
  let main_v10 : IVec S1024x1 1 := andi main_v7 main_v9
  (main_v2, main_v5, main_v10)
-- ==== Pre_finite_and_routed_ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S256x512 : Shape := ⟨2, ![256, 512]⟩
abbrev S_ : Shape := ⟨0, ![]⟩

class Facts : Prop where
  bcast_S_S4096x256 : S_.BroadcastsInDim S4096x256 (![] : Fin 0 → Fin S4096x256.rank)
  bcast_S_S256x16 : S_.BroadcastsInDim S256x16 (![] : Fin 0 → Fin S256x16.rank)
  bcast_S_S4096x1 : S_.BroadcastsInDim S4096x1 (![] : Fin 0 → Fin S4096x1.rank)

variable [Facts]

def fn {F : FTy → Type} [FloatOps F] (main_arg0 : FVec F S4096x256 .f32) (main_arg1 : FVec F S256x16 .f32) (main_arg2 : IVec S4096x1 32) (main_arg3 : FVec F S16x256x512 .f32) (main_arg4 : FVec F S256x512 .f32) : IVec S4096x256 1 × IVec S256x16 1 × IVec S4096x1 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  let main_c : IVec S_ 32 := constantI S_ 32 0#32
  let main_v6 : IVec S4096x1 32 := broadcastInDim S4096x1 ![] bcast_S_S4096x1 main_c
  let main_v7 : IVec S4096x1 1 := cmpi .sge main_arg2 main_v6
  let main_c_1 : IVec S_ 32 := constantI S_ 32 16#32
  let main_v8 : IVec S4096x1 32 := broadcastInDim S4096x1 ![] bcast_S_S4096x1 main_c_1
  let main_v9 : IVec S4096x1 1 := cmpi .slt main_arg2 main_v8
  let main_v10 : IVec S4096x1 1 := andi main_v7 main_v9
  (main_v2, main_v5, main_v10)
-- ==== Kernel.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S4x2x256x512 : Shape := ⟨4, ![4, 2, 256, 512]⟩
abbrev S3x2 : Shape := ⟨2, ![3, 2]⟩
abbrev S_ : Shape := ⟨0, ![]⟩
abbrev S2x256x512 : Shape := ⟨3, ![2, 256, 512]⟩
abbrev S1x2x256x512 : Shape := ⟨4, ![1, 2, 256, 512]⟩
abbrev S1x1 : Shape := ⟨2, ![1, 1]⟩
abbrev S1x1x256x512 : Shape := ⟨4, ![1, 1, 256, 512]⟩
abbrev S1024x16 : Shape := ⟨2, ![1024, 16]⟩
abbrev S1024 : Shape := ⟨1, ![1024]⟩

abbrev nBuf : Space → Nat
  | .hbm => 6
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x1, .i32⟩
  | .hbm, ⟨3, _⟩ => ⟨S4x256x512, .f32⟩
  | .hbm, ⟨4, _⟩ => ⟨S256x512, .f32⟩
  | .hbm, ⟨5, _⟩ => ⟨S1024x512, .f32⟩
  | .local _ .vmem, ⟨0, _⟩ => ⟨S1024x256, .f32⟩
  | .local _ .vmem, ⟨1, _⟩ => ⟨S256x16, .f32⟩
  | .local _ .vmem, ⟨2, _⟩ => ⟨S1024x1, .i32⟩
  | .local _ .vmem, ⟨3, _⟩ => ⟨S4x256x512, .f32⟩
  | .local _ .vmem, ⟨4, _⟩ => ⟨S256x512, .f32⟩
  | .local _ .vmem, ⟨5, _⟩ => ⟨S1024x512, .f32⟩
  | .local _ .vmem, ⟨6, _⟩ => ⟨S4x2x256x512, .bf16⟩
  | .local _ .vmem, ⟨7, _⟩ => ⟨S4x2x256x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_30 : BitVec 32 := 1#32
  let v25 : BitVec 32 := Scalar.muli v7 c1_i32_30
  let v26 : BitVec 32 := Scalar.addi c0_i32_31 v25
  v26.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_44 : BitVec 32 := 1#32
  let v35 : BitVec 32 := Scalar.muli v5 c1_i32_44
  let v36 : BitVec 32 := Scalar.addi c0_i32_45 v35
  v36.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_58 : BitVec 32 := 1#32
  let v45 : BitVec 32 := Scalar.muli v7 c1_i32_58
  let v46 : BitVec 32 := Scalar.addi c0_i32_59 v45
  v46.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_72 : BitVec 32 := 1#32
  let v55 : BitVec 32 := Scalar.muli v5 c1_i32_72
  let v56 : BitVec 32 := Scalar.addi c0_i32_73 v55
  v56.toNat
def k0_dev7 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_167 : BitVec 32 := 1#32
  let v167 : BitVec 32 := Scalar.muli v7 c1_i32_167
  let v168 : BitVec 32 := Scalar.addi c0_i32_168 v167
  v168.toNat
def k0_dev8 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_181 : BitVec 32 := 1#32
  let v177 : BitVec 32 := Scalar.muli v5 c1_i32_181
  let v178 : BitVec 32 := Scalar.addi c0_i32_182 v177
  v178.toNat
def k0_dev9 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_240 : BitVec 32 := 1#32
  let v230 : BitVec 32 := Scalar.muli v7 c1_i32_240
  let v231 : BitVec 32 := Scalar.addi c0_i32_241 v230
  v231.toNat
def k0_dev10 (d0 : Dev nD) : Nat :=
  let c0_i32_255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_254 : BitVec 32 := 1#32
  let v240 : BitVec 32 := Scalar.muli v5 c1_i32_254
  let v241 : BitVec 32 := Scalar.addi c0_i32_255 v240
  v241.toNat
def k0_dev11 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_372 : BitVec 32 := 1#32
  let v326 : BitVec 32 := Scalar.muli v7 c1_i32_372
  let v327 : BitVec 32 := Scalar.addi c0_i32_373 v326
  v327.toNat
def k0_dev12 (d0 : Dev nD) : Nat :=
  let c0_i32_387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_386 : BitVec 32 := 1#32
  let v336 : BitVec 32 := Scalar.muli v5 c1_i32_386
  let v337 : BitVec 32 := Scalar.addi c0_i32_387 v336
  v337.toNat
def k0_dev13 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_445 : BitVec 32 := 1#32
  let v389 : BitVec 32 := Scalar.muli v7 c1_i32_445
  let v390 : BitVec 32 := Scalar.addi c0_i32_446 v389
  v390.toNat
def k0_dev14 (d0 : Dev nD) : Nat :=
  let c0_i32_460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_459 : BitVec 32 := 1#32
  let v399 : BitVec 32 := Scalar.muli v5 c1_i32_459
  let v400 : BitVec 32 := Scalar.addi c0_i32_460 v399
  v400.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S256x512 : Shape := ⟨2, ![256, 512]⟩
abbrev S4096x16 : Shape := ⟨2, ![4096, 16]⟩
abbrev S_ : Shape := ⟨0, ![]⟩
abbrev S4096 : Shape := ⟨1, ![4096]⟩
abbrev S4096x512 : Shape := ⟨2, ![4096, 512]⟩
abbrev S4096x1x1 : Shape := ⟨3, ![4096, 1, 1]⟩
abbrev S1 : Shape := ⟨1, ![1]⟩
abbrev S1x1x1 : Shape := ⟨3, ![1, 1, 1]⟩
abbrev S4096x16x512 : Shape := ⟨3, ![4096, 16, 512]⟩
abbrev S4096x1x512 : Shape := ⟨3, ![4096, 1, 512]⟩

abbrev nBuf : Space → Nat
  | .hbm => 68
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16, .f32⟩
  | .hbm, ⟨2, _⟩ => ⟨S4096x1, .i32⟩
  | .hbm, ⟨3, _⟩ => ⟨S16x256x512, .f32⟩
  | .hbm, ⟨4, _⟩ => ⟨S256x512, .f32⟩
  | .hbm, ⟨5, _⟩ => ⟨S4096x16, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x16, .f32⟩
  | .hbm, ⟨16, _⟩ => ⟨S4096x16, .f32⟩
  | .hbm, ⟨17, _⟩ => ⟨S4096x512, .f32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S_, .i32⟩
  | .hbm, ⟨22, _⟩ => ⟨S4096x1, .i32⟩
  | .hbm, ⟨23, _⟩ => ⟨S4096x1, .i32⟩
  | .hbm, ⟨24, _⟩ => ⟨S4096x1, .i32⟩
  | .hbm, ⟨25, _⟩ => ⟨S4096x1x1, .i32⟩
  | .hbm, ⟨26, _⟩ => ⟨S1, .i32⟩
  | .hbm, ⟨27, _⟩ => ⟨S_, .i32⟩
  | .hbm, ⟨28, _⟩ => ⟨S4096x1x1, .i32⟩
  | .hbm, ⟨29, _⟩ => ⟨S4096x1x1, .i1⟩
  | .hbm, ⟨30, _⟩ => ⟨S1x1x1, .i32⟩
  | .hbm, ⟨31, _⟩ => ⟨S4096x1x1, .i32⟩
  | .hbm, ⟨32, _⟩ => ⟨S4096x1x1, .i1⟩
  | .hbm, ⟨33, _⟩ => ⟨S4096x1x1, .i1⟩
  | .hbm, ⟨34, _⟩ => ⟨S_, .i1⟩
  | .hbm, ⟨35, _⟩ => ⟨S4096x1, .i1⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x16x512, .f32⟩
  | .hbm, ⟨41, _⟩ => ⟨S4096x1x1, .i32⟩
  | .hbm, ⟨42, _⟩ => ⟨S_, .i32⟩
  | .hbm, ⟨43, _⟩ => ⟨S4096x1x1, .i32⟩
  | .hbm, ⟨44, _⟩ => ⟨S4096x1x1, .i1⟩
  | .hbm, ⟨45, _⟩ => ⟨S_, .i32⟩
  | .hbm, ⟨46, _⟩ => ⟨S4096x1x1, .i32⟩
  | .hbm, ⟨47, _⟩ => ⟨S4096x1x1, .i32⟩
  | .hbm, ⟨48, _⟩ => ⟨S4096x1x1, .i32⟩
  | .hbm, ⟨49, _⟩ => ⟨S1, .i32⟩
  | .hbm, ⟨50, _⟩ => ⟨S_, .i32⟩
  | .hbm, ⟨51, _⟩ => ⟨S4096x1x1, .i32⟩
  | .hbm, ⟨52, _⟩ => ⟨S4096x1x1, .i1⟩
  | .hbm, ⟨53, _⟩ => ⟨S1x1x1, .i32⟩
  | .hbm, ⟨54, _⟩ => ⟨S4096x1x1, .i32⟩
  | .hbm, ⟨55, _⟩ => ⟨S4096x1x1, .i1⟩
  | .hbm, ⟨56, _⟩ => ⟨S4096x1x1, .i1⟩
  | .hbm, ⟨57, _⟩ => ⟨S_, .i1⟩
  | .hbm, ⟨58, _⟩ => ⟨S4096x1, .i1⟩
  | .hbm, ⟨59, _⟩ => ⟨S4096x1x512, .f32⟩
  | .hbm, ⟨60, _⟩ => ⟨S4096x1x512, .i1⟩
  | .hbm, ⟨61, _⟩ => ⟨S_, .f32⟩
  | .hbm, ⟨62, _⟩ => ⟨S4096x1x512, .f32⟩
  | .hbm, ⟨63, _⟩ => ⟨S4096x1x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_c_2 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_c_3 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩

abbrev nD : Nat := 1
abbrev τ : Topo := Topo.v7x

variable {F : FTy → Type} [FloatOps F]
-- ==== Proof.Protocol.lean ====
/-
  The exchange, written down before any of it is run.

  Four devices stand on a ring. Every device holds four experts; it rounds them to the narrow format and puts the first
  two in slot 0 of its CLOCKWISE buffer and the last two in slot 0 of its COUNTER buffer. A buffer has four slots of two
  tiles each. Hop `h` copies tile `s` of slot `h` into tile `s` of slot `h + 1` of the neighbour: the right one for the
  clockwise buffer, the left one for the counter buffer. After three hops slot `h` of a device's buffer holds what the
  device `h` steps behind (against the direction of travel) put in its own slot 0.

  A copy is named by its direction, its hop and its tile (`Lane`). It credits a SEND semaphore of the sender when the
  source has been read, and an ARRIVAL semaphore of the receiver when the tile has landed. One regular semaphore, the
  barrier, is signalled once by each neighbour before any copy; with its signal a neighbour hands over the slots the
  copies will write. This module fixes the names, the slots, the contents and the schedule of all these semaphores.
-/
module

public import proofs.«01_k».proof.Defs
public import Idealize.ShloMosaic.Lib.Pipeline.Launch
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

/-- The rounds algebra of the exchange; a duty is named by a Boolean. -/
abbrev UX := URounds (GSem nD τ sig) Bool
/-- Beside the copy the pipeline library uses. -/
abbrev UU := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## The ring of devices -/

set_option backward.proofsInPublic true in
/-- The neighbour a copy in direction `w` goes to: right when `w` is `true` (clockwise), left otherwise. -/
def tgt (w : Bool) (c : Dev nD) : Dev nD := ⟨(c.val + cond w 1 3) % 4, Nat.mod_lt _ (by decide)⟩

/-- Going one step in a direction and one step back. -/
theorem tgt_tgt (w : Bool) (c : Dev nD) : tgt w (tgt (!w) c) = c := by revert w c; decide
theorem tgt_tgt' (w : Bool) (c : Dev nD) : tgt (!w) (tgt w c) = c := by revert w c; decide

/-- One step in direction `w`, as a permutation of the devices. -/
def turn (w : Bool) : Dev nD ≃ Dev nD := ⟨tgt w, tgt (!w), tgt_tgt' w, tgt_tgt w⟩

set_option backward.proofsInPublic true in
/-- The device `h` steps behind `c`, against direction `w`. -/
def back (w : Bool) (h : Fin 4) (c : Dev nD) : Dev nD := ⟨(c.val + cond w (4 - h.val) h.val) % 4, Nat.mod_lt _ (by decide)⟩

/-- One hop further on, the same device is one step further behind. -/
theorem back_succ (w : Bool) (h : Fin 3) (c : Dev nD) : back w h.succ (tgt w c) = back w h.castSucc c := by
  revert w h c; decide
/-- No step behind is the device itself. -/
theorem back_zero (w : Bool) (c : Dev nD) : back w 0 c = c := by revert w c; decide

/-! ## The semaphores -/

/-- A copy: its direction, its hop, its tile. -/
abbrev Lane := Bool × Fin 3 × Fin 2

set_option backward.proofsInPublic true in
/-- The semaphore of a copy: of its arrival when `r` is `true`, of its read-out otherwise. -/
def laneSem (r : Bool) (x : Lane) : DmaSem sig :=
  ⟨6 + cond x.1 0 12 + cond r 6 0 + 2 * x.2.1.val + x.2.2.val, by
    obtain ⟨w, h, s⟩ := x; revert r w h s; decide⟩

set_option backward.proofsInPublic true in
/-- Which copy a DMA semaphore serves, and whether it counts the arrival; none for the pipeline's own. -/
def laneOf (q : DmaSem sig) : Option (Bool × Lane) :=
  if 6 ≤ q.val then
    some ((q.val - 6) / 6 % 2 == 1, (q.val - 6) / 12 == 0, ⟨(q.val - 6) % 6 / 2 % 3, Nat.mod_lt _ (by decide)⟩, ⟨q.val % 2, Nat.mod_lt _ (by decide)⟩)
  else none

theorem laneOf_laneSem (r : Bool) (x : Lane) : laneOf (laneSem r x) = some (r, x) := by
  obtain ⟨w, h, s⟩ := x; revert r w h s; decide

/-- The barrier semaphore. -/
abbrev barS : Sem sig := (SemArray.scalar (sig.barrier 0 rfl) : Sems sig S_).sem

/-- A semaphore of the exchange: the barrier (`none`), or a copy's. -/
abbrev Spot := Option (Bool × Lane)

/-- Where it lies on a core. -/
def spotSem : Spot → SemLoc sig
  | none => .reg barS
  | some (r, x) => .dma (laneSem r x)

/-- The semaphore of device `c` at a spot. -/
abbrev cell (c : Dev nD) (k : Spot) : GSem nD τ sig := ((c : Thread nD τ), spotSem k)
abbrev barCell (c : Dev nD) : GSem nD τ sig := cell c none
abbrev sendCell (c : Dev nD) (x : Lane) : GSem nD τ sig := cell c (some (false, x))
abbrev arrCell (c : Dev nD) (x : Lane) : GSem nD τ sig := cell c (some (true, x))

theorem spotSem_injective : Function.Injective spotSem := by
  rintro (_ | ⟨r, x⟩) (_ | ⟨r', x'⟩) h
  · rfl
  · cases h
  · cases h
  · have h1 : laneSem r x = laneSem r' x' := SemLoc.dma.inj h
    have h2 := congrArg laneOf h1
    rw [laneOf_laneSem, laneOf_laneSem] at h2
    rw [h2]

theorem cell_injective : Function.Injective fun ck : Dev nD × Spot => cell ck.1 ck.2 := by
  rintro ⟨c, k⟩ ⟨c', k'⟩ h
  have h1 : c = c' := congrArg (fun g : GSem nD τ sig => g.1.1) h
  have h2 : k = k' := spotSem_injective (congrArg (fun g : GSem nD τ sig => g.2) h)
  rw [h1, h2]

/-! ## The slots -/

/-- The part of a buffer that is tile `s` of slot `h`. -/
theorem slot_inb (h : Fin 4) (s : Fin 2) : ∀ a, (![h.val, s.val, 0, 0] : Fin 4 → Nat) a + S1x1x256x512.size a ≤ S4x2x256x512.size a := by
  revert h s; decide
abbrev slotR (h : Fin 4) (s : Fin 2) : Rect S4x2x256x512 :=
  Rect.unit (s := S4x2x256x512) ![h.val, s.val, 0, 0] S1x1x256x512.size (slot_inb h s)

/-- The two travelling buffers: clockwise (`true`) and counter. -/
abbrev ringM : Bool → Memref sig .tc .vmem S4x2x256x512 .bf16
  | true => Memref.whole cc0_scratch0
  | false => Memref.whole cc0_scratch1

/-- Tile `s` of slot `h` as the copies name it. -/
abbrev slotM (w : Bool) (h : Fin 4) (s : Fin 2) : Memref sig .tc .vmem S256x512 .bf16 :=
  ((ringM w).slice (slotR h s) (fun _ => rfl)).squeeze S256x512 squeezes_S1x1x256x512_S256x512

/-- What one copied tile credits. -/
abbrev N : ℕ := (slotM true 0 0).view.dmaCredit
theorem N_pos : 0 < N := View.dmaCredit_pos _ (by decide)
theorem N_eq (w : Bool) (h : Fin 4) (s : Fin 2) : (slotM w h s).view.dmaCredit = N := by
  cases w <;> rfl

/-- A share of one tile of a travelling buffer of device `c`, at contents `f` of the whole buffer. -/
def tilePts (w : Bool) (h : Fin 4) (s : Fin 2) (c : Dev nD) (q : PosShare TreeShare) (f : Vec F S4x2x256x512 .bf16) : sProp 𝕄 :=
  match w with
  | true => ((c : Thread nD τ).loc cc0_scratch0) ↦[(slotR h s).set]{q} f
  | false => ((c : Thread nD τ).loc cc0_scratch1) ↦[(slotR h s).set]{q} f

instance tilePts_storable (w : Bool) (h : Fin 4) (s : Fin 2) (c : Dev nD) (q : PosShare TreeShare) (f : Vec F S4x2x256x512 .bf16) :
    BI.Storable (upEmb : UEmb _ 𝕄) (tilePts (F := F) w h s c q f) := by
  cases w <;> (unfold tilePts; infer_instance)

/-! ## The contents -/

/-- The blocks the pipeline brings in on device `c`: tokens, router weights, routes, experts, shared weights. -/
def stX (c : Dev nD) : Vec F S1024x256 .f32 := (win0_0.blk (0 : Fin 1)).view.read (Elt F) (m ((c : Thread nD τ).loc main_arg0))
def stR (c : Dev nD) : Vec F S256x16 .f32 := (win0_1.blk (0 : Fin 1)).view.read (Elt F) (m ((c : Thread nD τ).loc main_arg1))
def stI (c : Dev nD) : Vec F S1024x1 .i32 := (win0_2.blk (0 : Fin 1)).view.read (Elt F) (m ((c : Thread nD τ).loc main_arg2))
def stE (c : Dev nD) : Vec F S4x256x512 .f32 := (win0_3.blk (0 : Fin 1)).view.read (Elt F) (m ((c : Thread nD τ).loc main_arg3))
def stS (c : Dev nD) : Vec F S256x512 .f32 := (win0_4.blk (0 : Fin 1)).view.read (Elt F) (m ((c : Thread nD τ).loc main_arg4))

/-- The two halves of the experts, as a core loads them. -/
abbrev lowR : Rect S4x256x512 := Rect.unit (s := S4x256x512) ![0, 0, 0] S2x256x512.size inb_S4x256x512_S2x256x512_0_0_0
abbrev highR : Rect S4x256x512 := Rect.unit (s := S4x256x512) ![2, 0, 0] S2x256x512.size inb_S4x256x512_S2x256x512_2_0_0

/-- What device `c` puts in slot 0 of its buffer of direction `w`. -/
def own (w : Bool) (c : Dev nD) : Vec F S1x2x256x512 .bf16 :=
  match w with
  | true => k0_pay1 ((View.whole cc0_stg3_0).readAt (Elt F) lowR.toLoadRect (stE m c))
  | false => k0_pay2 ((View.whole cc0_stg3_0).readAt (Elt F) highR.toLoadRect (stE m c))

/-- A place of slot 0 from a place of a buffer: the slot's number forgotten. -/
def rowOf (i : S4x2x256x512.Idx) : S1x2x256x512.Idx := Fin.cons (⟨0, by decide⟩ : Fin (S1x2x256x512.size 0)) fun a => i a.succ

/-- What a travelling buffer of device `c` holds once every copy has landed. -/
def ring (w : Bool) (c : Dev nD) : Vec F S4x2x256x512 .bf16 := fun i => own m w (back w (i 0) c) (rowOf i)

end Cert.Moe

end
-- ==== Proof.Slots.lean ====
/-
  The geometry of the travelling buffers: where the tiles lie, that they cut a buffer up, and what a copy, a store and
  a load do to the contents `ring`.
-/
module

public import proofs.«01_k».proof.Proof.Protocol

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Which places a tile has -/

/-- A place is in tile `s` of slot `h` exactly when its first two coordinates say so. -/
theorem mem_slot {h : Fin 4} {s : Fin 2} {i : S4x2x256x512.Idx} :
    i ∈ (slotR h s).set ↔ (i 0).val = h.val ∧ (i 1).val = s.val := by
  rw [Rect.mem_set_unit, Fin.forall_fin_succ, Fin.forall_fin_succ, Fin.forall_fin_succ, Fin.forall_fin_succ]
  have e2 : (i 2).val < 256 := (i 2).isLt
  have e3 : (i 3).val < 512 := (i 3).isLt
  constructor
  · rintro ⟨⟨a, b⟩, ⟨a', b'⟩, -⟩
    change h.val ≤ (i 0).val at a
    change (i 0).val < h.val + 1 at b
    change s.val ≤ (i 1).val at a'
    change (i 1).val < s.val + 1 at b'
    exact ⟨by omega, by omega⟩
  · rintro ⟨a, b⟩
    refine ⟨⟨?_, ?_⟩, ⟨?_, ?_⟩, ⟨Nat.zero_le _, ?_⟩, ⟨Nat.zero_le _, ?_⟩, fun a => a.elim0⟩
    · exact a.ge
    · change (i 0).val < h.val + 1; omega
    · exact b.ge
    · change (i 1).val < s.val + 1; omega
    · change (i 2).val < 0 + 256; omega
    · change (i 3).val < 0 + 512; omega

/-- The first slot, both tiles: what a core stores. -/
abbrev rowR : Rect S4x2x256x512 :=
  Rect.unit (s := S4x2x256x512) ![0, 0, 0, 0] S1x2x256x512.size inb_S4x2x256x512_S1x2x256x512_0_0_0_0

/-- Its places. -/
theorem mem_row {i : S4x2x256x512.Idx} : i ∈ rowR.set ↔ (i 0).val = 0 := by
  rw [Rect.mem_set_unit, Fin.forall_fin_succ, Fin.forall_fin_succ, Fin.forall_fin_succ, Fin.forall_fin_succ]
  have e1 : (i 1).val < 2 := (i 1).isLt
  have e2 : (i 2).val < 256 := (i 2).isLt
  have e3 : (i 3).val < 512 := (i 3).isLt
  constructor
  · rintro ⟨⟨-, b⟩, -⟩
    change (i 0).val < 0 + 1 at b
    omega
  · intro a
    refine ⟨⟨Nat.zero_le _, ?_⟩, ⟨Nat.zero_le _, ?_⟩, ⟨Nat.zero_le _, ?_⟩, ⟨Nat.zero_le _, ?_⟩, fun a => a.elim0⟩
    · change (i 0).val < 0 + 1; omega
    · change (i 1).val < 0 + 2; omega
    · change (i 2).val < 0 + 256; omega
    · change (i 3).val < 0 + 512; omega

/-- Different tiles share no place. -/
theorem slot_disjoint {h h' : Fin 4} {s s' : Fin 2} (hne : (h, s) ≠ (h', s')) : Disjoint (slotR h s).set (slotR h' s').set := by
  rw [Finset.disjoint_left]
  intro i hi hi'
  rw [mem_slot] at hi hi'
  exact hne (Prod.ext (Fin.ext (hi.1.symm.trans hi'.1)) (Fin.ext (hi.2.symm.trans hi'.2)))

/-- The first slot is its two tiles. -/
theorem row_eq : rowR.set = (slotR 0 0).set ∪ (slotR 0 1).set := by
  ext i
  have e1 : (i 1).val < 2 := (i 1).isLt
  rw [Finset.mem_union, mem_row, mem_slot, mem_slot]
  constructor
  · intro a
    rcases (show (i 1).val = 0 ∨ (i 1).val = 1 by omega) with b | b
    · exact .inl ⟨a, b⟩
    · exact .inr ⟨a, b⟩
  · rintro (⟨a, -⟩ | ⟨a, -⟩) <;> exact a

/-- The tiles the copies write. -/
def rest : Finset S4x2x256x512.Idx := Finset.univ.biUnion fun y : Fin 3 × Fin 2 => (slotR y.1.succ y.2).set

/-- They and the first slot are the buffer, -/
theorem univ_eq : (Finset.univ : Finset S4x2x256x512.Idx) = rowR.set ∪ rest := by
  ext i
  simp only [Finset.mem_univ, true_iff, Finset.mem_union, mem_row, rest, Finset.mem_biUnion, true_and]
  have e0 : (i 0).val < 4 := (i 0).isLt
  have e1 : (i 1).val < 2 := (i 1).isLt
  by_cases a : (i 0).val = 0
  · exact .inl a
  · refine .inr ⟨(⟨(i 0).val - 1, by omega⟩, ⟨(i 1).val, e1⟩), mem_slot.mpr ⟨?_, rfl⟩⟩
    change (i 0).val = (i 0).val - 1 + 1
    omega

/-- without a common place. -/
theorem row_rest_disjoint : Disjoint rowR.set rest := by
  rw [Finset.disjoint_left]
  intro i hi hr
  rw [mem_row] at hi
  obtain ⟨y, -, hy⟩ := Finset.mem_biUnion.mp hr
  rw [mem_slot] at hy
  have := hy.1
  rw [hi, Fin.val_succ] at this
  omega

/-! ## Holding a buffer by its tiles -/

/-- A travelling buffer of device `c`, whole. -/
def bufPts (w : Bool) (c : Dev nD) (f : Vec F S4x2x256x512 .bf16) : sProp 𝕄 :=
  match w with
  | true => ((c : Thread nD τ).loc cc0_scratch0) ↦{fullShare} f
  | false => ((c : Thread nD τ).loc cc0_scratch1) ↦{fullShare} f

/-- Its first slot. -/
def rowPts (w : Bool) (c : Dev nD) (f : Vec F S4x2x256x512 .bf16) : sProp 𝕄 :=
  match w with
  | true => ((c : Thread nD τ).loc cc0_scratch0) ↦[rowR.set]{fullShare} f
  | false => ((c : Thread nD τ).loc cc0_scratch1) ↦[rowR.set]{fullShare} f

/-- A buffer is its first slot and the six tiles the copies write. -/
theorem bufPts_eq (w : Bool) (c : Dev nD) (f : Vec F S4x2x256x512 .bf16) :
    bufPts w c f ⊣⊢ iprop(rowPts w c f ∗ bigSep (Finset.univ : Finset (Fin 3 × Fin 2)) fun y => tilePts w y.1.succ y.2 c fullShare f) := by
  have hd : ∀ y ∈ (Finset.univ : Finset (Fin 3 × Fin 2)), ∀ y' ∈ (Finset.univ : Finset (Fin 3 × Fin 2)), y ≠ y' →
      Disjoint (slotR y.1.succ y.2).set (slotR y'.1.succ y'.2).set := fun y _ y' _ hne => slot_disjoint fun h => hne (by
    have h1 := congrArg Prod.fst h
    have h2 := congrArg Prod.snd h
    exact Prod.ext (Fin.succ_injective _ h1) h2)
  cases w
  · unfold bufPts rowPts tilePts
    rw [← pointsTo_biUnion (ℓ := (c : Thread nD τ).loc cc0_scratch1) Finset.univ (fun y : Fin 3 × Fin 2 => (slotR y.1.succ y.2).set) hd]
    change (((c : Thread nD τ).loc cc0_scratch1) ↦[(Finset.univ : Finset S4x2x256x512.Idx)]{fullShare} f) ⊣⊢ _
    rw [univ_eq]
    exact pointsTo_union row_rest_disjoint
  · unfold bufPts rowPts tilePts
    rw [← pointsTo_biUnion (ℓ := (c : Thread nD τ).loc cc0_scratch0) Finset.univ (fun y : Fin 3 × Fin 2 => (slotR y.1.succ y.2).set) hd]
    change (((c : Thread nD τ).loc cc0_scratch0) ↦[(Finset.univ : Finset S4x2x256x512.Idx)]{fullShare} f) ⊣⊢ _
    rw [univ_eq]
    exact pointsTo_union row_rest_disjoint

/-- The first slot is its two tiles. -/
theorem rowPts_eq (w : Bool) (c : Dev nD) (f : Vec F S4x2x256x512 .bf16) :
    rowPts w c f ⊣⊢ iprop(tilePts w 0 0 c fullShare f ∗ tilePts w 0 1 c fullShare f) := by
  have hd : Disjoint (slotR 0 0).set (slotR 0 1).set := slot_disjoint (by decide)
  cases w <;> (unfold rowPts tilePts; rw [row_eq]; exact pointsTo_union hd)

/-- A tile held outright is held in two halves: one to lend to a copy, one to read from meanwhile. -/
theorem tilePts_halves (w : Bool) (h : Fin 4) (s : Fin 2) (c : Dev nD) (f : Vec F S4x2x256x512 .bf16) :
    tilePts w h s c fullShare f ⊣⊢ iprop(tilePts w h s c fullShare.left f ∗ tilePts w h s c fullShare.right f) := by
  cases w <;> (unfold tilePts; exact pointsTo_share (PosShare.mem_left_op_right fullShare))

/-- The contents matter on the tile only. -/
theorem tilePts_congr (w : Bool) (h : Fin 4) (s : Fin 2) (c : Dev nD) (q : PosShare TreeShare) {f g : Vec F S4x2x256x512 .bf16}
    (hfg : ∀ i ∈ (slotR h s).set, f i = g i) : tilePts w h s c q f = tilePts w h s c q g := by
  cases w <;> (unfold tilePts; exact pointsTo_congr hfg)

theorem rowPts_congr (w : Bool) (c : Dev nD) {f g : Vec F S4x2x256x512 .bf16} (hfg : ∀ i ∈ rowR.set, f i = g i) :
    rowPts w c f = rowPts w c g := by
  cases w <;> (unfold rowPts; exact pointsTo_congr hfg)

/-! ## Contents after a store, a copy, a load -/

theorem slotM_set_true (h : Fin 4) (s : Fin 2) : (slotM true h s).view.set = (slotR h s).set := by
  show (((View.whole cc0_scratch0).slice (slotR h s)).reshape S256x512 _).set = _
  rw [View.set_reshape]; exact View.set_slice_whole _ _
theorem slotM_set_false (h : Fin 4) (s : Fin 2) : (slotM false h s).view.set = (slotR h s).set := by
  show (((View.whole cc0_scratch1).slice (slotR h s)).reshape S256x512 _).set = _
  rw [View.set_reshape]; exact View.set_slice_whole _ _

/-- The same place one slot further on: the slot's number counts up, the rest stays. -/
theorem ring_hop (w : Bool) (h : Fin 3) (s : Fin 2) (c : Dev nD) (z : S1x1x256x512.Idx) :
    ring m w (tgt w c) ((slotR h.succ s).emb z) = ring m w c ((slotR h.castSucc s).emb z) := by
  have z0 : (z 0).val = 0 := by have := (z 0).isLt; change (z 0).val < 1 at this; omega
  have e1 : (((slotR h.succ s).emb z) 0 : Fin 4) = h.succ := Fin.ext (by
    change h.succ.val + 1 * (z 0).val = h.succ.val
    rw [z0]; omega)
  have e2 : (((slotR h.castSucc s).emb z) 0 : Fin 4) = h.castSucc := Fin.ext (by
    change h.castSucc.val + 1 * (z 0).val = h.castSucc.val
    rw [z0]; omega)
  have e3 : rowOf ((slotR h.succ s).emb z) = rowOf ((slotR h.castSucc s).emb z) := by
    funext a
    refine Fin.cases rfl (fun a => ?_) a
    fin_cases a <;> rfl
  unfold ring
  rw [e3]
  exact congrArg (fun d => own m w d _) ((congrArg (fun k => back w k (tgt w c)) e1).trans
    ((back_succ w h c).trans (congrArg (fun k => back w k c) e2).symm))

/-- A tile landed from the neighbour's slot holds what the receiver's slot is to hold. -/
theorem landed_true (h : Fin 3) (s : Fin 2) (c : Dev nD) (fd : Vec F S4x2x256x512 .bf16) :
    ∀ i ∈ (slotR h.succ s).set, (slotM true h.succ s).view.write (Elt F) fd ((slotM true h.castSucc s).view.read (Elt F) (ring m true c)) Finset.univ i
      = ring m true (tgt true c) i := by
  intro i hi
  rw [← slotM_set_true] at hi
  obtain ⟨y, -, rfl⟩ := Finset.mem_map.mp hi
  rw [View.write_emb_of_mem _ _ (Finset.mem_univ y)]
  exact (ring_hop m true h s c _).symm

theorem landed_false (h : Fin 3) (s : Fin 2) (c : Dev nD) (fd : Vec F S4x2x256x512 .bf16) :
    ∀ i ∈ (slotR h.succ s).set, (slotM false h.succ s).view.write (Elt F) fd ((slotM false h.castSucc s).view.read (Elt F) (ring m false c)) Finset.univ i
      = ring m false (tgt false c) i := by
  intro i hi
  rw [← slotM_set_false] at hi
  obtain ⟨y, -, rfl⟩ := Finset.mem_map.mp hi
  rw [View.write_emb_of_mem _ _ (Finset.mem_univ y)]
  exact (ring_hop m false h s c _).symm

/-- The first slot of what a buffer is to hold is the device's own part. -/
theorem ring_row (w : Bool) (c : Dev nD) (z : S1x2x256x512.Idx) : ring m w c (rowR.emb z) = own m w c z := by
  have z0 : (z 0).val = 0 := by have := (z 0).isLt; change (z 0).val < 1 at this; omega
  have e1 : (show Fin 4 from (rowR.emb z) 0) = (0 : Fin 4) := Fin.ext (by
    change 0 + 1 * (z 0).val = 0
    rw [z0])
  have e3 : rowOf (rowR.emb z) = z := by
    funext a
    refine Fin.cases (Fin.ext z0.symm) (fun a => Fin.ext ?_) a
    fin_cases a
    · change 0 + 1 * (z 1).val = (z 1).val; omega
    · change 0 + 1 * (z 2).val = (z 2).val; omega
    · change 0 + 1 * (z 3).val = (z 3).val; omega
  unfold ring
  rw [e3]
  exact congrArg (fun d => own m w d z) ((congrArg (fun k => back w k c) e1).trans (back_zero w c))

/-- After the store of its own part, the first slot holds what it is to hold. -/
theorem stored_true (c : Dev nD) (f : Vec F S4x2x256x512 .bf16) :
    ∀ i ∈ rowR.set, ((ringM true).access rowR).write (Elt F) f (own m true c) Finset.univ i = ring m true c i := by
  intro i hi
  rw [← View.set_slice_whole cc0_scratch0 rowR] at hi
  obtain ⟨z, -, rfl⟩ := Finset.mem_map.mp hi
  refine (View.write_emb_of_mem (v := (ringM true).access rowR) f (own m true c) (Finset.mem_univ z)).trans ?_
  exact (ring_row m true c z).symm

theorem stored_false (c : Dev nD) (f : Vec F S4x2x256x512 .bf16) :
    ∀ i ∈ rowR.set, ((ringM false).access rowR).write (Elt F) f (own m false c) Finset.univ i = ring m false c i := by
  intro i hi
  rw [← View.set_slice_whole cc0_scratch1 rowR] at hi
  obtain ⟨z, -, rfl⟩ := Finset.mem_map.mp hi
  refine (View.write_emb_of_mem (v := (ringM false).access rowR) f (own m false c) (Finset.mem_univ z)).trans ?_
  exact (ring_row m false c z).symm

/-- What a core loads of tile `s` of slot `h`. -/
def tile (w : Bool) (h : Fin 4) (s : Fin 2) (c : Dev nD) : Vec F S1x1x256x512 .bf16 := fun z => ring m w c ((slotR h s).emb z)

theorem read_true (h : Fin 4) (s : Fin 2) (c : Dev nD) :
    (ringM true).view.readAt (Elt F) (slotR h s).toLoadRect (ring m true c) = tile m true h s c := rfl
theorem read_false (h : Fin 4) (s : Fin 2) (c : Dev nD) :
    (ringM false).view.readAt (Elt F) (slotR h s).toLoadRect (ring m false c) = tile m false h s c := rfl

end Cert.Moe

end
-- ==== Proof.Steps.lean ====
/-
  The schedule of the exchange's semaphores, what a device owes and at which levels, and one rule for each kind of step:
  signalling a neighbour, waiting at the barrier, starting a copy, waiting for its arrival, waiting for its read-out.
-/
module

public import proofs.«01_k».proof.Proof.Slots

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The schedule -/

/-- The six tiles of the buffer of direction `w` on device `d` that copies write, at whatever they hold. -/
def room (w : Bool) (d : Dev nD) : sProp 𝕄 :=
  bigSep (Finset.univ : Finset (Fin 3 × Fin 2)) fun y => iprop(∃ f, tilePts (F := F) w y.1.succ y.2 d fullShare f)

/-- What the arrival of copy `x` on device `c` hands over: the tile, holding what it is to hold. -/
def arrPay (x : Lane) (c : Dev nD) : sProp 𝕄 := tilePts x.1 x.2.1.succ x.2.2 c fullShare (ring m x.1 c)
/-- What the read-out of copy `x` hands back to its sender: the half of the source tile it lent. -/
def sendPay (x : Lane) (c : Dev nD) : sProp 𝕄 := tilePts x.1 x.2.1.castSucc x.2.2 c fullShare.right (ring m x.1 c)

/-- The duties: a barrier cell has one for each neighbour, a copy's cell has one. -/
def dutiesAt : SemLoc sig → Finset Bool
  | .reg _ => Finset.univ
  | .dma q => if (laneOf q).isSome then {false} else ∅

/-- Their units. -/
def unitsAt : SemLoc sig → ℕ
  | .reg _ => 1
  | .dma _ => N

/-- What their units hand to the owner. The barrier's duty `w` on `c` is paid by the neighbour that copies in direction
    `w` go to, with its tiles. -/
def payAt (c : Dev nD) (d : Bool) : SemLoc sig → sProp 𝕄
  | .reg _ => room d (tgt d c)
  | .dma q => match laneOf q with
    | none => iprop(emp)
    | some (true, x) => arrPay m x c
    | some (false, x) => sendPay m x c

/-- The schedule: everything happens in round 0. -/
def plan : Schedule (GSem nD τ sig) Bool 𝕄 where
  duties g r := if r = 0 ∧ g.1.2 = .tc then dutiesAt g.2 else ∅
  unitless _ := False
  amount g _ _ := unitsAt g.2
  payload g _ d := payAt m g.1.1 d g.2
  amount_pos g _ _ _ := by
    cases h : g.2 with
    | reg s => exact Nat.one_pos
    | dma q => exact N_pos

instance plan_storable (g : GSem nD τ sig) (r : ℕ) (d : Bool) : BI.Storable (upEmb : UEmb _ 𝕄) ((plan (F := F) m).payload g r d) := by
  show BI.Storable upEmb (payAt m g.1.1 d g.2)
  cases g.2 with
  | reg s => unfold payAt room; infer_instance
  | dma q =>
    unfold payAt
    dsimp only
    split
    · infer_instance
    · unfold arrPay; infer_instance
    · unfold sendPay; infer_instance

theorem duties_now (c : Dev nD) (sm : SemLoc sig) : (plan (F := F) m).duties ((c : Thread nD τ), sm) 0 = dutiesAt sm := by
  show (if (0 : ℕ) = 0 ∧ (Proc.tc : Proc τ) = .tc then dutiesAt sm else ∅) = _
  rw [if_pos (And.intro rfl rfl)]
theorem duties_bar (c : Dev nD) : (plan (F := F) m).duties (barCell c) 0 = Finset.univ := duties_now m c _
theorem duties_lane (r : Bool) (x : Lane) (c : Dev nD) : (plan (F := F) m).duties (cell c (some (r, x))) 0 = {false} := by
  refine (duties_now m c _).trans ?_
  show (if (laneOf (laneSem r x)).isSome then ({false} : Finset Bool) else ∅) = {false}
  rw [laneOf_laneSem]; rfl
theorem mem_lane (r : Bool) (x : Lane) (c : Dev nD) : false ∈ (plan (F := F) m).duties (cell c (some (r, x))) 0 := by
  rw [duties_lane]; exact Finset.mem_singleton_self _
theorem duties_later (g : GSem nD τ sig) : ∀ r, 1 ≤ r → (plan (F := F) m).duties g r = ∅ :=
  fun r hr => if_neg fun h => by omega

theorem pay_bar (c : Dev nD) (d : Bool) : (plan (F := F) m).payload (barCell c) 0 d = room d (tgt d c) := rfl
theorem pay_arr (x : Lane) (c : Dev nD) (d : Bool) : (plan (F := F) m).payload (arrCell c x) 0 d = arrPay m x c := by
  show (match laneOf (laneSem true x) with | none => iprop(emp) | some (true, x) => arrPay m x c | some (false, x) => sendPay m x c) = _
  rw [laneOf_laneSem]
theorem pay_send (x : Lane) (c : Dev nD) (d : Bool) : (plan (F := F) m).payload (sendCell c x) 0 d = sendPay m x c := by
  show (match laneOf (laneSem false x) with | none => iprop(emp) | some (true, x) => arrPay m x c | some (false, x) => sendPay m x c) = _
  rw [laneOf_laneSem]

theorem expect_bar (c : Dev nD) : (plan (F := F) m).expect (barCell c) 0 = 2 := by
  unfold Schedule.expect Schedule.amountOf
  rw [duties_bar]; rfl
theorem expect_lane (r : Bool) (x : Lane) (c : Dev nD) : (plan (F := F) m).expect (cell c (some (r, x))) 0 = N := by
  unfold Schedule.expect Schedule.amountOf
  rw [duties_lane, Finset.sum_singleton]; rfl

/-- All a barrier cell hands over: both neighbours' tiles. -/
theorem rest_bar (c : Dev nD) : bigSep ((plan (F := F) m).duties (barCell c) 0 \ ∅) (fun d => (plan (F := F) m).payload (barCell c) 0 d)
    = iprop(room true (tgt true c) ∗ room false (tgt false c)) := by
  rw [Finset.sdiff_empty, duties_bar, bigSep_univ_eq_bigSepL [true, false] (by decide) (by decide), bigSepL_cons_cons, bigSepL_singleton]
  rfl
theorem rest_arr (x : Lane) (c : Dev nD) : bigSep ((plan (F := F) m).duties (arrCell c x) 0 \ ∅) (fun d => (plan (F := F) m).payload (arrCell c x) 0 d)
    = arrPay m x c := by
  rw [Finset.sdiff_empty, duties_lane, bigSep_singleton, pay_arr]
theorem rest_send (x : Lane) (c : Dev nD) : bigSep ((plan (F := F) m).duties (sendCell c x) 0 \ ∅) (fun d => (plan (F := F) m).payload (sendCell c x) 0 d)
    = sendPay m x c := by
  rw [Finset.sdiff_empty, duties_lane, bigSep_singleton, pay_send]

/-! ## Debts and levels -/

/-- What a device owes while the copies of a list are still to be started: their arrivals. -/
def debt (c : Dev nD) : List Lane → CellTallies nD τ sig Unit
  | [] => 0
  | x :: l => debt c l + tallyAt (arrCell (tgt x.1 c) x) () N

/-- Every cell of a TensorCore has a level, -/
def L (g : GSem nD τ sig) : Finset Unit := if g.1.2 = .tc then {()} else ∅
/-- the height of a semaphore: the barrier's 1, the arrival's of hop `h` at `2 + h`, all others' 0. -/
def height : SemLoc sig → ℕ
  | .reg _ => 1
  | .dma q => match laneOf q with
    | some (true, x) => 2 + x.2.1.val
    | _ => 0
def lv (g : GSem nD τ sig) (_ : Unit) : ℕ := height g.2

theorem L_of_ne (g : GSem nD τ sig) (h : g.1.2 ≠ .tc) : L g = ∅ := if_neg h
theorem L_tc (c : Dev nD) (sm : SemLoc sig) : L ((c : Thread nD τ), sm) = {()} := if_pos rfl
theorem height_arr (x : Lane) : height (spotSem (some (true, x))) = 2 + x.2.1.val := by
  show (match laneOf (laneSem true x) with | some (true, x) => 2 + x.2.1.val | _ => 0) = _
  rw [laneOf_laneSem]
theorem height_send (x : Lane) : height (spotSem (some (false, x))) = 0 := by
  show (match laneOf (laneSem false x) with | some (true, x) => 2 + x.2.1.val | _ => 0) = _
  rw [laneOf_laneSem]

/-- A unit owed is owed for a copy of the list. -/
theorem debt_pos {c : Dev nD} {l : List Lane} {g : GSem nD τ sig} {u : Unit} (h : 0 < debt c l g u) :
    ∃ x ∈ l, g = arrCell (tgt x.1 c) x := by
  induction l with
  | nil => exact absurd h (Nat.lt_irrefl 0)
  | cons x l ih =>
    unfold debt at h
    rw [Pi.add_apply, Finsupp.add_apply, tallyAt_apply] at h
    by_cases hg : g = arrCell (tgt x.1 c) x ∧ u = ()
    · exact ⟨x, List.mem_cons_self, hg.1⟩
    · rw [if_neg hg, Nat.add_zero] at h
      obtain ⟨y, hy, e⟩ := ih h
      exact ⟨y, List.mem_cons_of_mem _ hy, e⟩

/-- A device may wait at a semaphore no higher than `b` while all it owes are arrivals of hops above. -/
theorem mayWait_debt (c : Dev nD) (sm : SemLoc sig) (b : ℕ) (hb : height sm ≤ b) (l : List Lane) (hl : ∀ x ∈ l, b < 2 + x.2.1.val) :
    (levAts L lv : sProp 𝕄) ⊢ MayWait (c : Thread nD τ) sm () (debt c l) :=
  MayOwe.of_cut (L := L) (lev := lv) b (fun p hp => by rw [Finset.mem_singleton.mp hp, L_tc]; exact Finset.mem_singleton_self _)
    (fun g u hg => by obtain ⟨x, -, rfl⟩ := debt_pos hg; rw [L_tc]; exact Finset.mem_singleton_self _)
    (fun p hp => by rw [Finset.mem_singleton.mp hp]; exact hb)
    (fun g u hg => by
      obtain ⟨x, hx, rfl⟩ := debt_pos hg
      show b < height (spotSem (some (true, x)))
      rw [height_arr]; exact hl x hx)

/-- What device `c` still owes for the copies of a list, whatever it has waited at. -/
def going (c : Dev nD) (l : List Lane) : sProp 𝕄 := iprop(∃ W : Waits sig Unit, owes (c : Thread nD τ) (debt c l) W)

/-! ## What every device knows -/

/-- The record of all cells of the exchange: their invariants, that round 0 is open, the levels. -/
def book (K : Dev nD × Spot → ℕ) : sProp 𝕄 :=
  iprop((bigSep Finset.univ fun ck : Dev nD × Spot => iprop(cellInv EX (plan m) (K ck) (cell ck.1 ck.2) ∗ reached EX (cell ck.1 ck.2) 0))
    ∗ levAts L lv)

instance book_persistent (K : Dev nD × Spot → ℕ) : BI.Persistent (book (F := F) m K) := by unfold book; infer_instance

/-- A page of the record. -/
theorem book_at (K : Dev nD × Spot → ℕ) (c : Dev nD) (k : Spot) :
    book m K ⊢ iprop(cellInv EX (plan m) (K (c, k)) (cell c k) ∗ reached EX (cell c k) 0) := by
  unfold book
  rw [bigSep_erase (Finset.mem_univ (c, k))]
  exact sep_elim_left.trans sep_elim_left

theorem book_lev (K : Dev nD × Spot → ℕ) : book (F := F) m K ⊢ levAts L lv := by
  unfold book
  iintro ⟨-, H⟩
  iexact H

/-! ## The steps -/

variable (K : Dev nD × Spot → ℕ)

/-- The right to start copy `x`: the duties it pays on both ends, and the owner's place at its read-out. -/
def ready (c : Dev nD) (x : Lane) : sProp 𝕄 :=
  iprop(dutyTok EX (sendCell c x) 0 false ∗ dutyTok EX (arrCell (tgt x.1 c) x) 0 false ∗ atPos EX (sendCell c x) 0 ∅ 0)
/-- Copy `x` started: the right to wait for its read-out. -/
def flying (c : Dev nD) (x : Lane) : sProp 𝕄 := iprop(cred (tallyAt (sendCell c x) () N) ∗ atPos EX (sendCell c x) 0 ∅ 0)
/-- The right to wait for the arrival of copy `x`. -/
def awaited (c : Dev nD) (x : Lane) : sProp 𝕄 := iprop(cred (tallyAt (arrCell c x) () N) ∗ atPos EX (arrCell c x) 0 ∅ 0)

abbrev 𝒱₀ : Variants := Variants.none

/-- The machine step of a clockwise copy, in the exchange's names. -/
theorem ship_true (h : Fin 3) (s : Fin 2) (c : Dev nD) (l : List Lane) (W : Waits sig Unit) (fd : Vec F S4x2x256x512 .bf16)
    {hsc : (slotM true h.succ s : Memref sig (Dev.tc (tgt true c) : Thread nD τ).2.kind .vmem S256x512 .bf16).view.ref.isScScratch = false}
    {hsrc : (slotM true h.castSucc s).view.WordExact} {hdst : (slotM true h.succ s).view.WordExact}
    {hsem : DmaTarget.Typed .vmem (.dma (laneSem true (true, h, s))) (.remote (Dev.tc (tgt true c) : Thread nD τ) (slotM true h.succ s) (.dma (laneSem false (true, h, s))) hsc)}
    {α : Type} {Q : α → sProp 𝕄} {k : PUnit → Prog (TpuEff nD τ sig (Elt F) Λ₀ .tc) α} :
    iprop(cellInv EX (plan m) (K (c, some (false, true, h, s))) (sendCell c (true, h, s))
        ∗ cellInv EX (plan m) (K (tgt true c, some (true, true, h, s))) (arrCell (tgt true c) (true, h, s))
        ∗ tilePts true h.castSucc s c fullShare.right (ring m true c) ∗ tilePts true h.succ s (tgt true c) fullShare fd
        ∗ owes (c : Thread nD τ) (debt c ((true, h, s) :: l)) W
        ∗ dutyTok EX (sendCell c (true, h, s)) 0 false ∗ reached EX (sendCell c (true, h, s)) 0
        ∗ dutyTok EX (arrCell (tgt true c) (true, h, s)) 0 false ∗ reached EX (arrCell (tgt true c) (true, h, s)) 0)
      ⊢ iprop(((cred (tallyAt (sendCell c (true, h, s)) () N) ∗ owes (c : Thread nD τ) (debt c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM true h.castSucc s) (.remote (Dev.tc (tgt true c) : Thread nD τ) (slotM true h.succ s) (.dma (laneSem false (true, h, s))) hsc)
                (.dma (laneSem true (true, h, s))) hsrc hdst hsem) k) Q) := by
  have p1 : ((slotM true h.castSucc s).view.loc (c : Thread nD τ) ↦[(slotM true h.castSucc s).view.set]{fullShare.right} ring m true c : sProp 𝕄)
      ⊢ (plan m).payload (sendCell c (true, h, s)) 0 false := by
    rw [pay_send, slotM_set_true]; exact BI.Entails.refl _
  have p2 : ((slotM true h.succ s).view.loc (tgt true c : Thread nD τ) ↦[(slotM true h.succ s).view.set]{fullShare}
        ((slotM true h.succ s).view.write (Elt F) fd ((slotM true h.castSucc s).view.read (Elt F) (ring m true c)) Finset.univ) : sProp 𝕄)
      ⊢ (plan m).payload (arrCell (tgt true c) (true, h, s)) 0 false := by
    rw [pay_arr, slotM_set_true]
    unfold arrPay tilePts
    exact Entails.of_eq (pointsTo_congr (landed_true m h s c fd))
  have key := Rounds.wp_send_pointsTo (hsc := hsc) (hsrc := hsrc) (hdst := hdst) (hsem := hsem) (k := k) (Q := Q) (defs := defs₀ (F := F)) 𝒱₀ EX (plan m) (c : Thread nD τ) none
    (κ₁ := K (c, some (false, true, h, s))) (κ₂ := K (tgt true c, some (true, true, h, s)))
    (r₁ := 0) (r₂ := 0) (d₁ := false) (d₂ := false) (q := fullShare.right) (fs := ring m true c) (fd := fd)
    (mem_lane m false (true, h, s) c) (mem_lane m true (true, h, s) (tgt true c))
    () () N (N_eq true h.succ s) rfl rfl (debt c l) rfl (W := W) p1 p2 (Es := Set.univ) (Γ := [])
  rw [slotM_set_true, slotM_set_true] at key
  exact key

/-- The machine step of a counter copy, in the exchange's names. -/
theorem ship_false (h : Fin 3) (s : Fin 2) (c : Dev nD) (l : List Lane) (W : Waits sig Unit) (fd : Vec F S4x2x256x512 .bf16)
    {hsc : (slotM false h.succ s : Memref sig (Dev.tc (tgt false c) : Thread nD τ).2.kind .vmem S256x512 .bf16).view.ref.isScScratch = false}
    {hsrc : (slotM false h.castSucc s).view.WordExact} {hdst : (slotM false h.succ s).view.WordExact}
    {hsem : DmaTarget.Typed .vmem (.dma (laneSem true (false, h, s))) (.remote (Dev.tc (tgt false c) : Thread nD τ) (slotM false h.succ s) (.dma (laneSem false (false, h, s))) hsc)}
    {α : Type} {Q : α → sProp 𝕄} {k : PUnit → Prog (TpuEff nD τ sig (Elt F) Λ₀ .tc) α} :
    iprop(cellInv EX (plan m) (K (c, some (false, false, h, s))) (sendCell c (false, h, s))
        ∗ cellInv EX (plan m) (K (tgt false c, some (true, false, h, s))) (arrCell (tgt false c) (false, h, s))
        ∗ tilePts false h.castSucc s c fullShare.right (ring m false c) ∗ tilePts false h.succ s (tgt false c) fullShare fd
        ∗ owes (c : Thread nD τ) (debt c ((false, h, s) :: l)) W
        ∗ dutyTok EX (sendCell c (false, h, s)) 0 false ∗ reached EX (sendCell c (false, h, s)) 0
        ∗ dutyTok EX (arrCell (tgt false c) (false, h, s)) 0 false ∗ reached EX (arrCell (tgt false c) (false, h, s)) 0)
      ⊢ iprop(((cred (tallyAt (sendCell c (false, h, s)) () N) ∗ owes (c : Thread nD τ) (debt c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM false h.castSucc s) (.remote (Dev.tc (tgt false c) : Thread nD τ) (slotM false h.succ s) (.dma (laneSem false (false, h, s))) hsc)
                (.dma (laneSem true (false, h, s))) hsrc hdst hsem) k) Q) := by
  have p1 : ((slotM false h.castSucc s).view.loc (c : Thread nD τ) ↦[(slotM false h.castSucc s).view.set]{fullShare.right} ring m false c : sProp 𝕄)
      ⊢ (plan m).payload (sendCell c (false, h, s)) 0 false := by
    rw [pay_send, slotM_set_false]; exact BI.Entails.refl _
  have p2 : ((slotM false h.succ s).view.loc (tgt false c : Thread nD τ) ↦[(slotM false h.succ s).view.set]{fullShare}
        ((slotM false h.succ s).view.write (Elt F) fd ((slotM false h.castSucc s).view.read (Elt F) (ring m false c)) Finset.univ) : sProp 𝕄)
      ⊢ (plan m).payload (arrCell (tgt false c) (false, h, s)) 0 false := by
    rw [pay_arr, slotM_set_false]
    unfold arrPay tilePts
    exact Entails.of_eq (pointsTo_congr (landed_false m h s c fd))
  have key := Rounds.wp_send_pointsTo (hsc := hsc) (hsrc := hsrc) (hdst := hdst) (hsem := hsem) (k := k) (Q := Q) (defs := defs₀ (F := F)) 𝒱₀ EX (plan m) (c : Thread nD τ) none
    (κ₁ := K (c, some (false, false, h, s))) (κ₂ := K (tgt false c, some (true, false, h, s)))
    (r₁ := 0) (r₂ := 0) (d₁ := false) (d₂ := false) (q := fullShare.right) (fs := ring m false c) (fd := fd)
    (mem_lane m false (false, h, s) c) (mem_lane m true (false, h, s) (tgt false c))
    () () N (N_eq false h.succ s) rfl rfl (debt c l) rfl (W := W) p1 p2 (Es := Set.univ) (Γ := [])
  rw [slotM_set_false, slotM_set_false] at key
  exact key

/-- Starting copy `x`: the half of the source tile and the neighbour's tile go in, the debt shrinks by the arrival, and
    the read-out may be waited for. -/
theorem wp_ship (x : Lane) (c n : Dev nD) (hn : n = tgt x.1 c) (l : List Lane)
    {src dst : Memref sig .tc .vmem S256x512 .bf16} (hs : src = slotM x.1 x.2.1.castSucc x.2.2) (hd : dst = slotM x.1 x.2.1.succ x.2.2)
    {sS sR : DmaSem sig} (hS : sS = laneSem false x) (hR : sR = laneSem true x)
    {hsc : (dst : Memref sig (Dev.tc n : Thread nD τ).2.kind .vmem S256x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(book m K ∗ ready c x ∗ (∃ f, tilePts x.1 x.2.1.succ x.2.2 (tgt x.1 c) fullShare f)
        ∗ tilePts x.1 x.2.1.castSucc x.2.2 c fullShare.right (ring m x.1 c) ∗ going c (x :: l))
      ⊢ iprop(((flying c x ∗ going c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  obtain ⟨w, h, s⟩ := x
  subst hn hs hd hS hR
  unfold ready going flying
  iintro ⟨#HB, ⟨Ht, Ht', Hat⟩, ⟨%f, Hdst⟩, Hsrc, ⟨%W, HO⟩⟩ Hk
  ihave ⟨#HI, #Hr⟩ := (book_at m K c (some (false, w, h, s))) $$ HB
  ihave ⟨#HI', #Hr'⟩ := (book_at m K (tgt w c) (some (true, w, h, s))) $$ HB
  cases w
  · iapply (ship_false m K h s c l W f) $$ [Ht Ht' Hdst Hsrc HO]
    · isplitr; · iexact HI
      isplitr; · iexact HI'
      isplitl [Hsrc]; · iexact Hsrc
      isplitl [Hdst]; · iexact Hdst
      isplitl [HO]; · iexact HO
      isplitl [Ht]; · iexact Ht
      isplitr; · iexact Hr
      isplitl [Ht']; · iexact Ht'
      iexact Hr'
    iintro ⟨Hc, HO⟩
    iapply Hk
    isplitl [Hc Hat]
    · isplitl [Hc] <;> iassumption
    · iexists W; iexact HO
  · iapply (ship_true m K h s c l W f) $$ [Ht Ht' Hdst Hsrc HO]
    · isplitr; · iexact HI
      isplitr; · iexact HI'
      isplitl [Hsrc]; · iexact Hsrc
      isplitl [Hdst]; · iexact Hdst
      isplitl [HO]; · iexact HO
      isplitl [Ht]; · iexact Ht
      isplitr; · iexact Hr
      isplitl [Ht']; · iexact Ht'
      iexact Hr'
    iintro ⟨Hc, HO⟩
    iapply Hk
    isplitl [Hc Hat]
    · isplitl [Hc] <;> iassumption
    · iexists W; iexact HO

/-- Waiting out a copy's cell: the tile comes back and the cell is closed, its counter at zero. -/
theorem wp_lane (r : Bool) (x : Lane) (c : Dev nD) (l : List Lane) (hl : ∀ y ∈ l, height (spotSem (some (r, x))) < 2 + y.2.1.val)
    {src dst : Memref sig .tc .vmem S256x512 .bf16} (hd : dst.view.dmaCredit = N)
    {q : DmaSem sig} (hq : q = laneSem r x) {hsrc : src.view.WordExact} {hdst : dst.view.WordExact}
    {α : Type} {Q : α → sProp 𝕄} {k : PUnit → Prog (TpuEff nD τ sig (Elt F) Λ₀ .tc) α} :
    iprop(book m K ∗ cred (tallyAt (cell c (some (r, x))) () N) ∗ atPos EX (cell c (some (r, x))) 0 ∅ 0 ∗ going c l)
      ⊢ iprop(((bigSep ((plan (F := F) m).duties (cell c (some (r, x))) 0 \ ∅) (fun d => (plan (F := F) m).payload (cell c (some (r, x))) 0 d)
              ∗ semVal (cell c (some (r, x))) 0 ∗ going c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold going
  iintro ⟨#HB, Hc, Hat, ⟨%W, HO⟩⟩ Hk
  ihave ⟨#HI, -⟩ := (book_at m K c (some (r, x))) $$ HB
  ihave #HL := (book_lev m K) $$ HB
  iapply (Rounds.wp_wait_rest_token 𝒱₀ EX (plan m) (c : Thread nD τ) none (κ := K (c, some (r, x)))
      (wpE_waitDma2_eq 𝒱₀ (c : Thread nD τ) none Set.univ) (Set.mem_univ _) () (O := debt c l) (W := W) (R := 0) (m := 0) (T := ∅)
      (by rw [Nat.zero_add, hd]; exact (expect_lane m r x c).symm)) $$ [Hc HO Hat]
  · rw [hd]
    isplitr; · iexact HI
    isplitl [Hc]; · iexact Hc
    isplitl [HO]; · iexact HO
    isplitr; · iapply (mayWait_debt c (spotSem (some (r, x))) _ le_rfl l hl); iexact HL
    iexact Hat
  iintro ⟨HO, Hat, -, Hpay⟩
  imod (Rounds.cell_close EX (plan m) (Set.mem_univ (K (c, some (r, x)))) (fun h => h) (R := 0 + 1) (duties_later m (cell c (some (r, x))))) $$ [Hat] with Hz
  · isplitr; · iexact HI
    iexact Hat
  iapply Hk
  isplitl [Hpay]; · iexact Hpay
  isplitl [Hz]; · iexact Hz
  iexists _; iexact HO

/-- Waiting for the arrival of copy `x`: the tile, in two halves. -/
theorem wp_arrive (x : Lane) (c : Dev nD) (l : List Lane) (hl : ∀ y ∈ l, x.2.1.val < y.2.1.val)
    {src dst : Memref sig .tc .vmem S256x512 .bf16} (hd : dst.view.dmaCredit = N)
    {q : DmaSem sig} (hq : q = laneSem true x) {hsrc : src.view.WordExact} {hdst : dst.view.WordExact}
    {α : Type} {Q : α → sProp 𝕄} {k : PUnit → Prog (TpuEff nD τ sig (Elt F) Λ₀ .tc) α} :
    iprop(book m K ∗ awaited c x ∗ going c l)
      ⊢ iprop(((tilePts x.1 x.2.1.succ x.2.2 c fullShare.left (ring m x.1 c) ∗ tilePts x.1 x.2.1.succ x.2.2 c fullShare.right (ring m x.1 c)
              ∗ semVal (arrCell c x) 0 ∗ going c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold awaited
  iintro ⟨#HB, ⟨Hc, Hat⟩, HO⟩ Hk
  iapply (wp_lane m K true x c l (fun y hy => by rw [height_arr]; have := hl y hy; omega) hd hq) $$ [Hc Hat HO]
  · isplitr; · iexact HB
    isplitl [Hc]; · iexact Hc
    isplitl [Hat] <;> iassumption
  iintro ⟨Hp, Hz, HO⟩
  ihave Hp := (Entails.of_eq (rest_arr m x c)) $$ Hp
  unfold arrPay
  ihave Hp := (tilePts_halves x.1 x.2.1.succ x.2.2 c (ring m x.1 c)).1 $$ Hp
  icases Hp with ⟨Hl, Hr⟩
  iapply Hk
  isplitl [Hl]; · iexact Hl
  isplitl [Hr]; · iexact Hr
  isplitl [Hz] <;> iassumption

/-- Waiting for the read-out of copy `x`: the lent half of the source tile. -/
theorem wp_drain (x : Lane) (c : Dev nD) (l : List Lane)
    {src dst : Memref sig .tc .vmem S256x512 .bf16} (hd : dst.view.dmaCredit = N)
    {q : DmaSem sig} (hq : q = laneSem false x) {hsrc : src.view.WordExact} {hdst : dst.view.WordExact}
    {α : Type} {Q : α → sProp 𝕄} {k : PUnit → Prog (TpuEff nD τ sig (Elt F) Λ₀ .tc) α} :
    iprop(book m K ∗ flying c x ∗ going c l)
      ⊢ iprop(((tilePts x.1 x.2.1.castSucc x.2.2 c fullShare.right (ring m x.1 c) ∗ semVal (sendCell c x) 0 ∗ going c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold flying
  iintro ⟨#HB, ⟨Hc, Hat⟩, HO⟩ Hk
  iapply (wp_lane m K false x c l (fun y hy => by rw [height_send]; omega) hd hq) $$ [Hc Hat HO]
  · isplitr; · iexact HB
    isplitl [Hc]; · iexact Hc
    isplitl [Hat] <;> iassumption
  iintro ⟨Hp, Hz, HO⟩
  ihave Hp := (Entails.of_eq (rest_send m x c)) $$ Hp
  unfold sendPay
  iapply Hk
  isplitl [Hp]; · iexact Hp
  isplitl [Hz] <;> iassumption

end Cert.Moe

end
-- ==== Proof.Moves.lean ====
/-
  The remaining rules of the exchange (the two signals, the barrier's wait, loading a tile), the values the body carries
  from part to part, and the names the parts are called by.
-/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The rules -/

section Rules

variable (K : Dev nD × Spot → ℕ)

theorem mem_bar (c : Dev nD) (d : Bool) : d ∈ (plan (F := F) m).duties ((c : Thread nD τ), .reg barS) 0 := by
  show d ∈ (plan (F := F) m).duties (barCell c) 0
  rw [duties_bar]; exact Finset.mem_univ _
theorem pay_in (w : Bool) (c : Dev nD) : (room w c : sProp 𝕄) = (plan (F := F) m).payload ((tgt (!w) c : Thread nD τ), .reg barS) 0 w := by
  show room w c = room w (tgt w (tgt (!w) c))
  rw [tgt_tgt]
theorem expect_two (c : Dev nD) : 0 + (2#32).toNat = (plan (F := F) m).expect ((c : Thread nD τ), .reg barS) 0 := by
  show _ = (plan (F := F) m).expect (barCell c) 0
  rw [expect_bar]; decide
theorem rest_bar' (c : Dev nD) : (bigSep ((plan (F := F) m).duties ((c : Thread nD τ), .reg barS) 0 \ ∅) fun d => (plan (F := F) m).payload ((c : Thread nD τ), .reg barS) 0 d)
    ⊢ iprop(room true (tgt true c) ∗ room false (tgt false c)) := Entails.of_eq (rest_bar m c)

/-- Signalling the neighbour that copies in direction `w` come from: it may now write the tiles it is handed. -/
theorem wp_invite (w : Bool) (c n : Dev nD) (hn : n = tgt (!w) c) (O : CellTallies nD τ sig Unit) (W : Waits sig Unit)
    {α : Type} {Q : α → sProp 𝕄} {k : PUnit → Prog (TpuEff nD τ sig (Elt F) Λ₀ .tc) α} :
    iprop(book m K ∗ dutyTok EX (barCell (tgt (!w) c)) 0 w ∗ room w c ∗ owes (c : Thread nD τ) (O + tallyAt (barCell (tgt (!w) c)) () 1) W)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32).toNat) k) Q) := by
  subst hn
  iintro ⟨#HB, Ht, Hr, HO⟩ Hk
  ihave ⟨#HI, #HR⟩ := (book_at m K (tgt (!w) c) none) $$ HB
  iapply (Rounds.wp_signal 𝒱₀ EX (plan m) (c : Thread nD τ) none (dst := (tgt (!w) c : Thread nD τ)) (κ := K (tgt (!w) c, none))
      (d := w) (r := 0) (mem_bar m (tgt (!w) c) w) (show (1 : ℕ) = (1#32).toNat by decide) () O rfl) $$ [HO Ht Hr]
  · isplitr; · iexact HI
    isplitl [HO]; · iexact HO
    isplitl [Ht]; · iexact Ht
    isplitl [Hr]
    · iapply (Entails.of_eq (pay_in m w c)); iexact Hr
    iexact HR
  iexact Hk

/-- Waiting for both neighbours at the barrier: each hands over its tiles, and the barrier's cell is closed. -/
theorem wp_gate (c : Dev nD) (l : List Lane) (W : Waits sig Unit) {α : Type} {Q : α → sProp 𝕄} {k : PUnit → Prog (TpuEff nD τ sig (Elt F) Λ₀ .tc) α} :
    iprop(book m K ∗ cred (tallyAt (barCell c) () 2) ∗ atPos EX (barCell c) 0 ∅ 0 ∗ owes (c : Thread nD τ) (debt c l) W)
      ⊢ iprop(((room true (tgt true c) ∗ room false (tgt false c) ∗ semVal (barCell c) 0 ∗ going c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32).toNat) k) Q) := by
  unfold going
  iintro ⟨#HB, Hc, Hat, HO⟩ Hk
  ihave ⟨#HI, -⟩ := (book_at m K c none) $$ HB
  ihave #HL := (book_lev m K) $$ HB
  iapply (Rounds.wp_wait_rest_token 𝒱₀ EX (plan m) (c : Thread nD τ) none (κ := K (c, none))
      (wpE_semWait_eq 𝒱₀ (c : Thread nD τ) none Set.univ) (Set.mem_univ _) () (O := debt c l) (W := W) (R := 0) (m := 0) (T := ∅)
      (expect_two m c)) $$ [Hc HO Hat]
  · isplitr; · iexact HI
    isplitl [Hc]; · iexact Hc
    isplitl [HO]; · iexact HO
    isplitr
    · iapply (mayWait_debt c (.reg barS) 1 le_rfl l (fun y _ => by omega)); iexact HL
    iexact Hat
  iintro ⟨HO, Hat, -, Hpay⟩
  ihave Hp := (rest_bar' m c) $$ Hpay
  icases Hp with ⟨Hr, Hl⟩
  imod (Rounds.cell_close EX (plan m) (Set.mem_univ (K (c, none))) (fun h => h) (R := 0 + 1) (duties_later m (barCell c))) $$ [Hat] with Hz
  · isplitr; · iexact HI
    iexact Hat
  iapply Hk
  isplitl [Hr]; · iexact Hr
  isplitl [Hl]; · iexact Hl
  isplitl [Hz]; · iexact Hz
  iexists _; iexact HO

/-- Loading a tile of the clockwise buffer, -/
theorem wp_peek_true (h : Fin 4) (s : Fin 2) (c : Dev nD) (q : PosShare TreeShare)
    {hl : (ringM true).view.LoadsAt (slotR h s).toLoadRect} {α : Type} {Q : α → sProp 𝕄} {k : Vec F S1x1x256x512 .bf16 → Prog (TpuEff nD τ sig (Elt F) Λ₀ .tc) α} :
    tilePts true h s c q (ring m true c)
      ⊢ iprop((tilePts true h s c q (ring m true c) -∗ wp frame (wpE (defs₀ (F := F)) 𝒱₀ (c : Thread nD τ) none) Set.univ (k (tile m true h s c)) Q)
          -∗ wp frame (wpE (defs₀ (F := F)) 𝒱₀ (c : Thread nD τ) none) Set.univ (.op (.load (ringM true) (slotR h s).toLoadRect hl) k) Q) :=
  wp_load_rect 𝒱₀ (c : Thread nD τ) none Set.univ (m := ringM true) (r := slotR h s) (S := (slotR h s).set) (f := ring m true c) (by
    rw [show ((ringM true).access (slotR h s)).set = (slotR h s).set from View.set_slice_whole cc0_scratch0 _])
/-- or of the counter one. -/
theorem wp_peek_false (h : Fin 4) (s : Fin 2) (c : Dev nD) (q : PosShare TreeShare)
    {hl : (ringM false).view.LoadsAt (slotR h s).toLoadRect} {α : Type} {Q : α → sProp 𝕄} {k : Vec F S1x1x256x512 .bf16 → Prog (TpuEff nD τ sig (Elt F) Λ₀ .tc) α} :
    tilePts false h s c q (ring m false c)
      ⊢ iprop((tilePts false h s c q (ring m false c) -∗ wp frame (wpE (defs₀ (F := F)) 𝒱₀ (c : Thread nD τ) none) Set.univ (k (tile m false h s c)) Q)
          -∗ wp frame (wpE (defs₀ (F := F)) 𝒱₀ (c : Thread nD τ) none) Set.univ (.op (.load (ringM false) (slotR h s).toLoadRect hl) k) Q) :=
  wp_load_rect 𝒱₀ (c : Thread nD τ) none Set.univ (m := ringM false) (r := slotR h s) (S := (slotR h s).set) (f := ring m false c) (by
    rw [show ((ringM false).access (slotR h s)).set = (slotR h s).set from View.set_slice_whole cc0_scratch1 _])

end Rules

/-! ## The values -/

/-- A device's number as the body computes it, and the owner of the experts in slot `j` of either buffer. -/
def w2 (c : Dev nD) : BitVec 32 := Scalar.remsi (Scalar.divsi (Dev.word c) 1#32) 4#32
def w5 (c : Dev nD) : BitVec 32 := Scalar.remsi (Scalar.addi (Scalar.subi (w2 c) 1#32) 4#32) 4#32
def w7 (c : Dev nD) : BitVec 32 := Scalar.remsi (Scalar.addi (w2 c) 1#32) 4#32
def wCw (j : BitVec 32) (c : Dev nD) : BitVec 32 := Scalar.remsi (Scalar.addi (Scalar.subi (w2 c) j) 4#32) 4#32
def wCcw (j : BitVec 32) (c : Dev nD) : BitVec 32 := Scalar.remsi (Scalar.addi (w2 c) j) 4#32

/-- The tokens, their experts, the exponentials of their scores, the weight of the expert each takes. -/
def vX (c : Dev nD) : FVec F S1024x256 .f32 := k0_pay3 (stX m c)
def vI (c : Dev nD) : IVec S1024x1 32 := k0_pay4 (stI m c)
def vU (c : Dev nD) : FVec F S1024x16 .f32 := k0_pay5 (stX m c) (stR m c)
def vP (c : Dev nD) : FVec F S1024x1 .f32 := k0_pay6 (vI m c) (vU m c)

/-- The sum so far, after each step that adds to it. -/
def sum1 (c : Dev nD) : FVec F S1024x512 .f32 := k0_pay7 (w2 c) (vX m c) (vI m c) (vU m c) (tile m true 0 0 c)
def sum4 (c : Dev nD) : FVec F S1024x512 .f32 :=
  k0_pay11 (vX m c) (vI m c) (vP m c) (wCw 0#32 c) (wCcw 0#32 c) (sum1 m c) (k0_pay8 (tile m false 0 0 c)) (k0_pay9 (w2 c) (vI m c))
    (k0_pay10 (F := F)) (tile m true 0 1 c) (tile m false 0 1 c)
def sum5 (c : Dev nD) : FVec F S1024x512 .f32 :=
  k0_pay12 (vX m c) (vI m c) (vP m c) (sum4 m c) (wCw 1#32 c) (tile m true 1 0 c)
def sum6 (c : Dev nD) : FVec F S1024x512 .f32 :=
  k0_pay13 (vX m c) (vI m c) (vP m c) (sum5 m c) (Scalar.muli (wCcw 1#32 c) 4#32) (tile m false 1 0 c)
def sum9 (c : Dev nD) : FVec F S1024x512 .f32 :=
  k0_pay14 (vX m c) (vI m c) (vP m c) (wCcw 1#32 c) (sum6 m c) (Scalar.muli (wCw 1#32 c) 4#32) 1#32 (tile m true 1 1 c) (tile m false 1 1 c) (stS m c)
def sum11 (c : Dev nD) : FVec F S1024x512 .f32 :=
  k0_pay15 (vX m c) (vI m c) (vP m c) (sum9 m c) (wCcw 2#32 c) (Scalar.addi (Scalar.muli (wCw 2#32 c) 4#32) 0#32) (tile m true 2 0 c) (tile m false 2 0 c)
def sum13 (c : Dev nD) : FVec F S1024x512 .f32 :=
  k0_pay16 (vX m c) (vI m c) (vP m c) (wCw 2#32 c) (wCcw 2#32 c) (sum11 m c) (tile m true 2 1 c) (tile m false 2 1 c)
def sum15 (c : Dev nD) : FVec F S1024x512 .f32 :=
  k0_pay17 (vX m c) (vI m c) (vP m c) (sum13 m c) (wCw 3#32 c) (wCcw 3#32 c) (tile m true 3 0 c) (tile m false 3 0 c)
/-- What device `c` writes out. -/
def outAt (c : Dev nD) : FVec F S1024x512 .f32 :=
  k0_pay20 (vX m c) (vI m c) (vP m c) (wCcw 3#32 c) (sum15 m c) (k0_pay18 (tile m true 3 1 c)) (k0_pay19 (vI m c) (vP m c) (wCw 3#32 c)) (tile m false 3 1 c)

/-! ## The buffers the parts are called on -/

/-- A part of the body, on the buffers and semaphores the launch gives it. -/
abbrev onBufs {α : Type 1}
    (f : (arg0 : Memref sig .tc .vmem S1024x256 .f32) → arg0.IsWhole → (arg1 : Memref sig .tc .vmem S256x16 .f32) → arg1.IsWhole
      → (arg2 : Memref sig .tc .vmem S1024x1 .i32) → arg2.IsWhole → (arg3 : Memref sig .tc .vmem S4x256x512 .f32) → arg3.IsWhole
      → (arg4 : Memref sig .tc .vmem S256x512 .f32) → arg4.IsWhole → (arg5 : Memref sig .tc .vmem S1024x512 .f32) → arg5.IsWhole
      → (arg6 : Memref sig .tc .vmem S4x2x256x512 .bf16) → arg6.IsWhole → (arg7 : Memref sig .tc .vmem S4x2x256x512 .bf16) → arg7.IsWhole
      → DmaSems sig S3x2 → DmaSems sig S3x2 → DmaSems sig S3x2 → DmaSems sig S3x2 → α) : α :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    cc0_scratch2 cc0_scratch3 cc0_scratch4 cc0_scratch5

/-- What a device knows when a part leaves off at `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

end Cert.Moe

end
-- ==== Proof.Looks.lean ====
/-
  Loading the staged inputs, and the order of the copies.
-/
module

public import proofs.«01_k».proof.Proof.Moves

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The copies in the order the body starts them, -/
def order : List Lane :=
  [(true, 0, 0), (false, 0, 0), (true, 0, 1), (false, 0, 1), (true, 1, 0), (false, 1, 0), (true, 1, 1), (false, 1, 1),
    (true, 2, 0), (false, 2, 0), (true, 2, 1), (false, 2, 1)]
/-- and those still to be started after the first `n`. -/
abbrev todo (n : ℕ) : List Lane := order.drop n

theorem zero2 : (![0, 0] : Fin 2 → Nat) = fun _ => 0 := funext fun a => by fin_cases a <;> rfl

/-- The staged tokens, and loading them. -/
def pX (c : Dev nD) : sProp 𝕄 := ((c : Thread nD τ).loc cc0_stg0_0) ↦{fullShare} stX m c
theorem wp_look_x (c : Dev nD) {hl : (Memref.whole cc0_stg0_0 : Memref sig .tc .vmem S1024x256 .f32).view.LoadsAt (Rect.unit (s := S1024x256) ![0, 0] S1024x256.size inb_S1024x256_S1024x256_0_0).toLoadRect}
    {α : Type} {Q : α → sProp 𝕄} {k : Vec F S1024x256 .f32 → Prog (TpuEff nD τ sig (Elt F) Λ₀ .tc) α} :
    pX m c ⊢ iprop((pX m c -∗ wp frame (wpE (defs₀ (F := F)) 𝒱₀ (c : Thread nD τ) none) Set.univ (k (stX m c)) Q)
      -∗ wp frame (wpE (defs₀ (F := F)) 𝒱₀ (c : Thread nD τ) none) Set.univ (.op (.load (Memref.whole cc0_stg0_0) (Rect.unit (s := S1024x256) ![0, 0] S1024x256.size inb_S1024x256_S1024x256_0_0).toLoadRect hl) k) Q) := by
  have h := wp_load (defs := defs₀ (F := F)) (Name := ℕ) (U := UU) (Lvl := ℕ) (Ix := Unit) (k := k) (Q := Q) (hl := hl) 𝒱₀ (c : Thread nD τ) none (Γ := []) Set.univ (m := Memref.whole cc0_stg0_0)
    (q := fullShare) (f := stX m c) (S := Finset.univ) (Finset.subset_univ _)
  rw [show (Memref.whole cc0_stg0_0 : Memref sig .tc .vmem S1024x256 .f32).view.readAt (Elt F) (Rect.unit (s := S1024x256) ![0, 0] S1024x256.size inb_S1024x256_S1024x256_0_0).toLoadRect (stX m c) = stX m c
    from Memref.readAt_unit_zero (Elt F) cc0_stg0_0 zero2 _ _] at h
  exact h

/-- The staged router, and loading it. -/
def pR (c : Dev nD) : sProp 𝕄 := ((c : Thread nD τ).loc cc0_stg1_0) ↦{fullShare} stR m c
theorem wp_look_r (c : Dev nD) {hl : (Memref.whole cc0_stg1_0 : Memref sig .tc .vmem S256x16 .f32).view.LoadsAt (Rect.unit (s := S256x16) ![0, 0] S256x16.size inb_S256x16_S256x16_0_0).toLoadRect}
    {α : Type} {Q : α → sProp 𝕄} {k : Vec F S256x16 .f32 → Prog (TpuEff nD τ sig (Elt F) Λ₀ .tc) α} :
    pR m c ⊢ iprop((pR m c -∗ wp frame (wpE (defs₀ (F := F)) 𝒱₀ (c : Thread nD τ) none) Set.univ (k (stR m c)) Q)
      -∗ wp frame (wpE (defs₀ (F := F)) 𝒱₀ (c : Thread nD τ) none) Set.univ (.op (.load (Memref.whole cc0_stg1_0) (Rect.unit (s := S256x16) ![0, 0] S256x16.size inb_S256x16_S256x16_0_0).toLoadRect hl) k) Q) := by
  have h := wp_load (defs := defs₀ (F := F)) (Name := ℕ) (U := UU) (Lvl := ℕ) (Ix := Unit) (k := k) (Q := Q) (hl := hl) 𝒱₀ (c : Thread nD τ) none (Γ := []) Set.univ (m := Memref.whole cc0_stg1_0)
    (q := fullShare) (f := stR m c) (S := Finset.univ) (Finset.subset_univ _)
  rw [show (Memref.whole cc0_stg1_0 : Memref sig .tc .vmem S256x16 .f32).view.readAt (Elt F) (Rect.unit (s := S256x16) ![0, 0] S256x16.size inb_S256x16_S256x16_0_0).toLoadRect (stR m c) = stR m c
    from Memref.readAt_unit_zero (Elt F) cc0_stg1_0 zero2 _ _] at h
  exact h

/-- The staged expert choices, and loading them. -/
def pI (c : Dev nD) : sProp 𝕄 := ((c : Thread nD τ).loc cc0_stg2_0) ↦{fullShare} stI m c
theorem wp_look_i (c : Dev nD) {hl : (Memref.whole cc0_stg2_0 : Memref sig .tc .vmem S1024x1 .i32).view.LoadsAt (Rect.unit (s := S1024x1) ![0, 0] S1024x1.size inb_S1024x1_S1024x1_0_0).toLoadRect}
    {α : Type} {Q : α → sProp 𝕄} {k : Vec F S1024x1 .i32 → Prog (TpuEff nD τ sig (Elt F) Λ₀ .tc) α} :
    pI m c ⊢ iprop((pI m c -∗ wp frame (wpE (defs₀ (F := F)) 𝒱₀ (c : Thread nD τ) none) Set.univ (k (stI m c)) Q)
      -∗ wp frame (wpE (defs₀ (F := F)) 𝒱₀ (c : Thread nD τ) none) Set.univ (.op (.load (Memref.whole cc0_stg2_0) (Rect.unit (s := S1024x1) ![0, 0] S1024x1.size inb_S1024x1_S1024x1_0_0).toLoadRect hl) k) Q) := by
  have h := wp_load (defs := defs₀ (F := F)) (Name := ℕ) (U := UU) (Lvl := ℕ) (Ix := Unit) (k := k) (Q := Q) (hl := hl) 𝒱₀ (c : Thread nD τ) none (Γ := []) Set.univ (m := Memref.whole cc0_stg2_0)
    (q := fullShare) (f := stI m c) (S := Finset.univ) (Finset.subset_univ _)
  rw [show (Memref.whole cc0_stg2_0 : Memref sig .tc .vmem S1024x1 .i32).view.readAt (Elt F) (Rect.unit (s := S1024x1) ![0, 0] S1024x1.size inb_S1024x1_S1024x1_0_0).toLoadRect (stI m c) = stI m c
    from Memref.readAt_unit_zero (Elt F) cc0_stg2_0 zero2 _ _] at h
  exact h

/-- The staged shared expert, and loading it. -/
def pS (c : Dev nD) : sProp 𝕄 := ((c : Thread nD τ).loc cc0_stg4_0) ↦{fullShare} stS m c
theorem wp_look_s (c : Dev nD) {hl : (Memref.whole cc0_stg4_0 : Memref sig .tc .vmem S256x512 .f32).view.LoadsAt (Rect.unit (s := S256x512) ![0, 0] S256x512.size inb_S256x512_S256x512_0_0).toLoadRect}
    {α : Type} {Q : α → sProp 𝕄} {k : Vec F S256x512 .f32 → Prog (TpuEff nD τ sig (Elt F) Λ₀ .tc) α} :
    pS m c ⊢ iprop((pS m c -∗ wp frame (wpE (defs₀ (F := F)) 𝒱₀ (c : Thread nD τ) none) Set.univ (k (stS m c)) Q)
      -∗ wp frame (wpE (defs₀ (F := F)) 𝒱₀ (c : Thread nD τ) none) Set.univ (.op (.load (Memref.whole cc0_stg4_0) (Rect.unit (s := S256x512) ![0, 0] S256x512.size inb_S256x512_S256x512_0_0).toLoadRect hl) k) Q) := by
  have h := wp_load (defs := defs₀ (F := F)) (Name := ℕ) (U := UU) (Lvl := ℕ) (Ix := Unit) (k := k) (Q := Q) (hl := hl) 𝒱₀ (c : Thread nD τ) none (Γ := []) Set.univ (m := Memref.whole cc0_stg4_0)
    (q := fullShare) (f := stS m c) (S := Finset.univ) (Finset.subset_univ _)
  rw [show (Memref.whole cc0_stg4_0 : Memref sig .tc .vmem S256x512 .f32).view.readAt (Elt F) (Rect.unit (s := S256x512) ![0, 0] S256x512.size inb_S256x512_S256x512_0_0).toLoadRect (stS m c) = stS m c
    from Memref.readAt_unit_zero (Elt F) cc0_stg4_0 zero2 _ _] at h
  exact h

end Cert.Moe

end
-- ==== Proof.PartOne.lean ====
/-
  The body's first part: the barrier with both neighbours, and the device's own experts put in slot 0.
-/
module

public import proofs.«01_k».proof.Proof.Looks

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Spot → ℕ)

/-- Reading over slot 0 of the clockwise buffer, -/
theorem wp_glance_true (c : Dev nD) (f : Vec F S4x2x256x512 .bf16) {hl : (ringM true).view.LoadsAt rowR.toLoadRect}
    {α : Type} {Q : α → sProp 𝕄} {k : Vec F S1x2x256x512 .bf16 → Prog (TpuEff nD τ sig (Elt F) Λ₀ .tc) α} :
    rowPts true c f ⊢ iprop((rowPts true c f -∗ wp frame (wpE (defs₀ (F := F)) 𝒱₀ (c : Thread nD τ) none) Set.univ (k (((ringM true).access rowR).read (Elt F) f)) Q)
      -∗ wp frame (wpE (defs₀ (F := F)) 𝒱₀ (c : Thread nD τ) none) Set.univ (.op (.load (ringM true) rowR.toLoadRect hl) k) Q) :=
  wp_load_rect 𝒱₀ (c : Thread nD τ) none Set.univ (m := ringM true) (r := rowR) (S := rowR.set) (f := f) (by
    rw [show ((ringM true).access rowR).set = rowR.set from View.set_slice_whole cc0_scratch0 _])
/-- and storing the device's experts there. -/
theorem wp_fill_true (c : Dev nD) (f : Vec F S4x2x256x512 .bf16) {hx : ((ringM true).access rowR).Stores Finset.univ} {hm : Finset.univ = Finset.univ ∨ ∀ a, rowR.stride a = 1}
    {α : Type} {Q : α → sProp 𝕄} {k : PUnit → Prog (TpuEff nD τ sig (Elt F) Λ₀ .tc) α} :
    rowPts true c f ⊢ iprop((rowPts true c (ring m true c) -∗ wp frame (wpE (defs₀ (F := F)) 𝒱₀ (c : Thread nD τ) none) Set.univ (k ⟨⟩) Q)
      -∗ wp frame (wpE (defs₀ (F := F)) 𝒱₀ (c : Thread nD τ) none) Set.univ (.op (.store (ringM true) rowR (own m true c) Finset.univ hx hm) k) Q) := by
  rw [← rowPts_congr true c (stored_true m c f)]
  exact wp_store 𝒱₀ (c : Thread nD τ) none Set.univ (m := ringM true) (r := rowR) (S := rowR.set) (f := f) (by
    show ((ringM true).access rowR).set ⊆ _
    rw [show ((ringM true).access rowR).set = rowR.set from View.set_slice_whole cc0_scratch0 _])

/-- Reading over slot 0 of the counter buffer, -/
theorem wp_glance_false (c : Dev nD) (f : Vec F S4x2x256x512 .bf16) {hl : (ringM false).view.LoadsAt rowR.toLoadRect}
    {α : Type} {Q : α → sProp 𝕄} {k : Vec F S1x2x256x512 .bf16 → Prog (TpuEff nD τ sig (Elt F) Λ₀ .tc) α} :
    rowPts false c f ⊢ iprop((rowPts false c f -∗ wp frame (wpE (defs₀ (F := F)) 𝒱₀ (c : Thread nD τ) none) Set.univ (k (((ringM false).access rowR).read (Elt F) f)) Q)
      -∗ wp frame (wpE (defs₀ (F := F)) 𝒱₀ (c : Thread nD τ) none) Set.univ (.op (.load (ringM false) rowR.toLoadRect hl) k) Q) :=
  wp_load_rect 𝒱₀ (c : Thread nD τ) none Set.univ (m := ringM false) (r := rowR) (S := rowR.set) (f := f) (by
    rw [show ((ringM false).access rowR).set = rowR.set from View.set_slice_whole cc0_scratch1 _])
/-- and storing the device's experts there. -/
theorem wp_fill_false (c : Dev nD) (f : Vec F S4x2x256x512 .bf16) {hx : ((ringM false).access rowR).Stores Finset.univ} {hm : Finset.univ = Finset.univ ∨ ∀ a, rowR.stride a = 1}
    {α : Type} {Q : α → sProp 𝕄} {k : PUnit → Prog (TpuEff nD τ sig (Elt F) Λ₀ .tc) α} :
    rowPts false c f ⊢ iprop((rowPts false c (ring m false c) -∗ wp frame (wpE (defs₀ (F := F)) 𝒱₀ (c : Thread nD τ) none) Set.univ (k ⟨⟩) Q)
      -∗ wp frame (wpE (defs₀ (F := F)) 𝒱₀ (c : Thread nD τ) none) Set.univ (.op (.store (ringM false) rowR (own m false c) Finset.univ hx hm) k) Q) := by
  rw [← rowPts_congr false c (stored_false m c f)]
  exact wp_store 𝒱₀ (c : Thread nD τ) none Set.univ (m := ringM false) (r := rowR) (S := rowR.set) (f := f) (by
    show ((ringM false).access rowR).set ⊆ _
    rw [show ((ringM false).access rowR).set = rowR.set from View.set_slice_whole cc0_scratch1 _])

/-- The staged experts. -/
def pE (c : Dev nD) : sProp 𝕄 := ((c : Thread nD τ).loc cc0_stg3_0) ↦{fullShare} stE m c

/-- What a device owes at the start: its signals to both neighbours, and every copy's arrival. -/
def O₀ (c : Dev nD) : CellTallies nD τ sig Unit :=
  debt c order + tallyAt (barCell (tgt true c)) () 1 + tallyAt (barCell (tgt false c)) () 1

/-- A slot 0 that holds the device's experts, as two tiles in two halves each. -/
theorem row_tiles (w : Bool) (c : Dev nD) :
    rowPts w c (ring m w c) ⊢ iprop(tilePts w 0 0 c fullShare.left (ring m w c) ∗ tilePts w 0 0 c fullShare.right (ring m w c)
      ∗ tilePts w 0 1 c fullShare.left (ring m w c) ∗ tilePts w 0 1 c fullShare.right (ring m w c)) := by
  iintro H
  ihave H := (rowPts_eq w c (ring m w c)).1 $$ H
  icases H with ⟨H0, H1⟩
  ihave H0 := (tilePts_halves w 0 0 c (ring m w c)).1 $$ H0
  ihave H1 := (tilePts_halves w 0 1 c (ring m w c)).1 $$ H1
  icases H0 with ⟨H0l, H0r⟩
  icases H1 with ⟨H1l, H1r⟩
  isplitl [H0l]; · iexact H0l
  isplitl [H0r]; · iexact H0r
  isplitl [H1l]; · iexact H1l
  iexact H1r

/-- A tile at some contents. -/
theorem tile_some (w : Bool) (h : Fin 4) (s : Fin 2) (c : Dev nD) (f : Vec F S4x2x256x512 .bf16) :
    tilePts w h s c fullShare f ⊢ iprop(∃ f, tilePts (F := F) w h s c fullShare f) := by
  iintro H
  iexists f; iexact H

/-- A buffer at whatever it holds gives its slot 0 and the room for the copies. -/
theorem buf_open (w : Bool) (c : Dev nD) (f : Vec F S4x2x256x512 .bf16) : bufPts w c f ⊢ iprop(rowPts w c f ∗ room w c) := by
  refine (bufPts_eq w c f).1.trans (sep_mono_right ?_)
  unfold room
  exact bigSep_mono fun y _ => tile_some w y.1.succ y.2 c f

/-- The first part. -/
theorem run_part1 (c : Dev nD) (Q : (Σ' (d0 : Dev nD) (v2 : BitVec 32) (v5 : BitVec 32), BitVec 32) → sProp 𝕄) :
    iprop(book m K ∗ dutyTok EX (barCell (tgt false c)) 0 true ∗ dutyTok EX (barCell (tgt true c)) 0 false
        ∗ cred (tallyAt (barCell c) () 2) ∗ atPos EX (barCell c) 0 ∅ 0 ∗ (∃ f, bufPts true c f) ∗ (∃ f, bufPts false c f) ∗ pE m c
        ∗ (∃ W, owes (c : Thread nD τ) (O₀ c) W))
      ⊢ iprop(((room true (tgt true c) ∗ room false (tgt false c) ∗ semVal (barCell c) 0 ∗ pE m c
            ∗ tilePts true 0 0 c fullShare.left (ring m true c) ∗ tilePts true 0 0 c fullShare.right (ring m true c)
            ∗ tilePts true 0 1 c fullShare.left (ring m true c) ∗ tilePts true 0 1 c fullShare.right (ring m true c)
            ∗ tilePts false 0 0 c fullShare.left (ring m false c) ∗ tilePts false 0 0 c fullShare.right (ring m false c)
            ∗ tilePts false 0 1 c fullShare.left (ring m false c) ∗ tilePts false 0 1 c fullShare.right (ring m false c) ∗ going c (todo 0))
            -∗ Q ⟨c, w2 c, w5 c, w7 c⟩)
          -∗ runs c ((onBufs (k0_part1 (F := F)) :)) Q) := by
  unfold onBufs runs pE w5 w7 w2
  rw [k0_part1_eq_skeleton]; unfold k0_part1_skel
  simp only [semSignalWord, semWaitWord, Prog.lift, Prog.bind_op, Prog.bind_ret, Prog.pure_eq_ret, wp_deviceId]
  iintro ⟨#HB, HtL, HtR, Hc, Hat, ⟨%f1, Hcw⟩, ⟨%f0, Hccw⟩, HE, ⟨%W, HO⟩⟩ Hk
  ihave Hcw := (buf_open true c f1) $$ Hcw
  icases Hcw with ⟨Hcw, Hroom1⟩
  ihave Hccw := (buf_open false c f0) $$ Hccw
  icases Hccw with ⟨Hccw, Hroom0⟩
  unfold O₀
  iapply (wp_invite m K true c _ (Fin.ext (k0_dev1_eq c)) (debt c order + tallyAt (barCell (tgt true c)) () 1) W) $$ [HtL Hroom1 HO]
  · isplitr; · iexact HB
    isplitl [HtL]; · iexact HtL
    isplitl [Hroom1]; · iexact Hroom1
    iexact HO
  iintro HO
  iapply (wp_invite m K false c _ (Fin.ext (k0_dev2_eq c)) (debt c order) W) $$ [HtR Hroom0 HO]
  · isplitr; · iexact HB
    isplitl [HtR]; · iexact HtR
    isplitl [Hroom0]; · iexact Hroom0
    iexact HO
  iintro HO
  iapply (wp_gate m K c order W) $$ [Hc Hat HO]
  · isplitr; · iexact HB
    isplitl [Hc]; · iexact Hc
    isplitl [Hat]; · iexact Hat
    iexact HO
  iintro ⟨HT1, HT0, HzB, HO⟩
  iapply (wp_load 𝒱₀ (c : Thread nD τ) none Set.univ (m := Memref.whole cc0_stg3_0) (r := lowR.toLoadRect) (f := stE m c) (Finset.subset_univ _)) $$ [HE]
  · iexact HE
  iintro HE
  iapply (wp_glance_true c _) $$ [Hcw]
  · iexact Hcw
  iintro Hcw
  iapply (wp_fill_true m c _) $$ [Hcw]
  · iexact Hcw
  iintro Hcw
  iapply (wp_load 𝒱₀ (c : Thread nD τ) none Set.univ (m := Memref.whole cc0_stg3_0) (r := highR.toLoadRect) (f := stE m c) (Finset.subset_univ _)) $$ [HE]
  · iexact HE
  iintro HE
  iapply (wp_glance_false c _) $$ [Hccw]
  · iexact Hccw
  iintro Hccw
  iapply (wp_fill_false m c _) $$ [Hccw]
  · iexact Hccw
  iintro Hccw
  ihave Hcw := (row_tiles m true c) $$ Hcw
  icases Hcw with ⟨HL100, HR100, HL101, HR101⟩
  ihave Hccw := (row_tiles m false c) $$ Hccw
  icases Hccw with ⟨HL000, HR000, HL001, HR001⟩
  rw [wp_ret]; imodintro; iapply Hk
  isplitl [HT1]; · iexact HT1
  isplitl [HT0]; · iexact HT0
  isplitl [HzB]; · iexact HzB
  isplitl [HE]; · iexact HE
  isplitl [HL100]; · iexact HL100
  isplitl [HR100]; · iexact HR100
  isplitl [HL101]; · iexact HL101
  isplitl [HR101]; · iexact HR101
  isplitl [HL000]; · iexact HL000
  isplitl [HR000]; · iexact HR000
  isplitl [HL001]; · iexact HL001
  isplitl [HR001]; · iexact HR001
  iexact HO

end Cert.Moe

end
-- ==== Proof.PartsA.lean ====
/-
  The body's parts up to the second hop, each with what it needs and what it leaves.
-/
module

public import proofs.«01_k».proof.Proof.Looks

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Spot → ℕ)

/-- The first two copies. -/
theorem run_part2 (c : Dev nD) (v5 v7 : BitVec 32) (Q : (BitVec 32) → sProp 𝕄) :
    iprop(book m K ∗ ready c (true, 0, 0) ∗ (∃ f, tilePts true 1 0 (tgt true c) fullShare f) ∗ tilePts true 0 0 c fullShare.right (ring m true c)
        ∗ ready c (false, 0, 0) ∗ (∃ f, tilePts false 1 0 (tgt false c) fullShare f) ∗ tilePts false 0 0 c fullShare.right (ring m false c) ∗ going c (todo 0))
      ⊢ iprop(((flying c (true, 0, 0) ∗ flying c (false, 0, 0) ∗ going c (todo 2))
            -∗ Q (Scalar.muli v7 1#32))
          -∗ runs c ((onBufs (k0_part2 (F := F)) :) c v5 v7) Q) := by
  unfold onBufs runs
  rw [k0_part2_eq_skeleton]; unfold k0_part2_skel
  simp only [Prog.lift, Prog.bind_op, Prog.bind_ret, Prog.pure_eq_ret]
  iintro ⟨#HB, HD100, HT100, HR100, HD000, HT000, HR000, HO⟩ Hk
  iapply (wp_ship m K (true, 0, 0) c _ (Fin.ext (k0_dev3_eq c)) (todo 1) rfl rfl rfl rfl) $$ [HD100 HT100 HR100 HO]
  · isplitr; · iexact HB
    isplitl [HD100]; · iexact HD100
    isplitl [HT100]; · iexact HT100
    isplitl [HR100]; · iexact HR100
    iexact HO
  iintro ⟨HF100, HO⟩
  iapply (wp_ship m K (false, 0, 0) c _ (Fin.ext (k0_dev4_eq c)) (todo 2) rfl rfl rfl rfl) $$ [HD000 HT000 HR000 HO]
  · isplitr; · iexact HB
    isplitl [HD000]; · iexact HD000
    isplitl [HT000]; · iexact HT000
    isplitl [HR000]; · iexact HR000
    iexact HO
  iintro ⟨HF000, HO⟩
  rw [wp_ret]; imodintro; iapply Hk
  isplitl [HF100]; · iexact HF100
  isplitl [HF000]; · iexact HF000
  iexact HO

/-- The next two, and what the router needs. -/
theorem run_part3 (c : Dev nD) (v5 v45 : BitVec 32) (Q : (Σ' (v66 : FVec F S1024x256 .f32) (v68 : IVec S1024x1 32), FVec F S1024x16 .f32) → sProp 𝕄) :
    iprop(book m K ∗ ready c (true, 0, 1) ∗ (∃ f, tilePts true 1 1 (tgt true c) fullShare f) ∗ tilePts true 0 1 c fullShare.right (ring m true c)
        ∗ ready c (false, 0, 1) ∗ (∃ f, tilePts false 1 1 (tgt false c) fullShare f) ∗ tilePts false 0 1 c fullShare.right (ring m false c) ∗ pX m c ∗ pI m c
        ∗ pR m c ∗ going c (todo 2))
      ⊢ iprop(((pX m c ∗ pI m c ∗ pR m c ∗ flying c (true, 0, 1) ∗ flying c (false, 0, 1) ∗ going c (todo 4))
            -∗ Q ⟨k0_pay3 (stX m c), k0_pay4 (stI m c), k0_pay5 (stX m c) (stR m c)⟩)
          -∗ runs c ((onBufs (k0_part3 (F := F)) :) c v5 v45) Q) := by
  unfold onBufs runs
  rw [k0_part3_eq_skeleton]; unfold k0_part3_skel
  simp only [Prog.lift, Prog.bind_op, Prog.bind_ret, Prog.pure_eq_ret]
  iintro ⟨#HB, HD101, HT101, HR101, HD001, HT001, HR001, HXin, HIin, HRin, HO⟩ Hk
  iapply (wp_ship m K (true, 0, 1) c _ (Fin.ext (k0_dev5_eq c)) (todo 3) rfl rfl rfl rfl) $$ [HD101 HT101 HR101 HO]
  · isplitr; · iexact HB
    isplitl [HD101]; · iexact HD101
    isplitl [HT101]; · iexact HT101
    isplitl [HR101]; · iexact HR101
    iexact HO
  iintro ⟨HF101, HO⟩
  iapply (wp_ship m K (false, 0, 1) c _ (Fin.ext (k0_dev6_eq c)) (todo 4) rfl rfl rfl rfl) $$ [HD001 HT001 HR001 HO]
  · isplitr; · iexact HB
    isplitl [HD001]; · iexact HD001
    isplitl [HT001]; · iexact HT001
    isplitl [HR001]; · iexact HR001
    iexact HO
  iintro ⟨HF001, HO⟩
  iapply (wp_look_x m c) $$ HXin; iintro HXin
  iapply (wp_look_i m c) $$ HIin; iintro HIin
  iapply (wp_look_r m c) $$ HRin; iintro HRin
  rw [wp_ret]; imodintro; iapply Hk
  isplitl [HXin]; · iexact HXin
  isplitl [HIin]; · iexact HIin
  isplitl [HRin]; · iexact HRin
  isplitl [HF101]; · iexact HF101
  isplitl [HF001]; · iexact HF001
  iexact HO

/-- The device's own first experts. -/
theorem run_part4 (c : Dev nD) (v2 : BitVec 32) (v66 : FVec F S1024x256 .f32) (v68 : IVec S1024x1 32) (v76 : FVec F S1024x16 .f32) (Q : (Σ' (v87 : FVec F S1024x1 .f32) (v90 : BitVec 32) (v92 : BitVec 32) (v104 : FVec F S1024x512 .f32) (v109 : FVec F S256x512 .bf16) (v111 : IVec S1024x1 1), FVec F S1024x1 .f32) → sProp 𝕄) :
    iprop(tilePts true 0 0 c fullShare.left (ring m true c) ∗ tilePts false 0 0 c fullShare.left (ring m false c))
      ⊢ iprop(((tilePts true 0 0 c fullShare.left (ring m true c) ∗ tilePts false 0 0 c fullShare.left (ring m false c))
            -∗ Q ⟨k0_pay6 v68 v76, Scalar.remsi (Scalar.addi (Scalar.subi v2 0#32) 4#32) 4#32, Scalar.remsi (Scalar.addi v2 0#32) 4#32, k0_pay7 v2 v66 v68 v76 (tile m true 0 0 c), k0_pay8 (tile m false 0 0 c), k0_pay9 v2 v68, k0_pay10 (F := F)⟩)
          -∗ runs c ((onBufs (k0_part4 (F := F)) :) v2 v66 v68 v76) Q) := by
  unfold onBufs runs
  rw [k0_part4_eq_skeleton]; unfold k0_part4_skel
  simp only [Prog.lift, Prog.bind_op, Prog.bind_ret, Prog.pure_eq_ret]
  iintro ⟨HL100, HL000⟩ Hk
  iapply (wp_peek_true m 0 0 c fullShare.left) $$ [HL100]
  · iexact HL100
  iintro HL100
  iapply (wp_peek_false m 0 0 c fullShare.left) $$ [HL000]
  · iexact HL000
  iintro HL000
  rw [wp_ret]; imodintro; iapply Hk
  isplitl [HL100]; · iexact HL100
  iexact HL000

/-- The device's own other experts. -/
theorem run_part5 (c : Dev nD) (v2 : BitVec 32) (v66 : FVec F S1024x256 .f32) (v68 : IVec S1024x1 32) (v87 : FVec F S1024x1 .f32) (v90 v92 : BitVec 32) (v104 : FVec F S1024x512 .f32) (v109 : FVec F S256x512 .bf16) (v111 : IVec S1024x1 1) (v112 : FVec F S1024x1 .f32) (Q : (Σ' (v145 : FVec F S1024x512 .f32) (v148 : BitVec 32) (v149 : BitVec 32), BitVec 32) → sProp 𝕄) :
    iprop(tilePts true 0 1 c fullShare.left (ring m true c) ∗ tilePts false 0 1 c fullShare.left (ring m false c))
      ⊢ iprop(((tilePts true 0 1 c fullShare.left (ring m true c) ∗ tilePts false 0 1 c fullShare.left (ring m false c))
            -∗ Q ⟨k0_pay11 v66 v68 v87 v90 v92 v104 v109 v111 v112 (tile m true 0 1 c) (tile m false 0 1 c), Scalar.remsi (Scalar.addi (Scalar.subi v2 1#32) 4#32) 4#32, Scalar.addi v2 1#32, 4#32⟩)
          -∗ runs c ((onBufs (k0_part5 (F := F)) :) v2 v66 v68 v87 v90 v92 v104 v109 v111 v112) Q) := by
  unfold onBufs runs
  rw [k0_part5_eq_skeleton]; unfold k0_part5_skel
  simp only [Prog.lift, Prog.bind_op, Prog.bind_ret, Prog.pure_eq_ret]
  iintro ⟨HL101, HL001⟩ Hk
  iapply (wp_peek_true m 0 1 c fullShare.left) $$ [HL101]
  · iexact HL101
  iintro HL101
  iapply (wp_peek_false m 0 1 c fullShare.left) $$ [HL001]
  · iexact HL001
  iintro HL001
  rw [wp_ret]; imodintro; iapply Hk
  isplitl [HL101]; · iexact HL101
  iexact HL001

/-- The first arrivals. -/
theorem run_part6 (c : Dev nD) (v5 v7 v149 c4 : BitVec 32) (Q : (BitVec 32) → sProp 𝕄) :
    iprop(book m K ∗ awaited c (true, 0, 0) ∗ awaited c (false, 0, 0) ∗ going c (todo 4))
      ⊢ iprop(((tilePts true 1 0 c fullShare.left (ring m true c) ∗ tilePts true 1 0 c fullShare.right (ring m true c) ∗ semVal (cell c (some (true, true, 0, 0))) 0
            ∗ tilePts false 1 0 c fullShare.left (ring m false c) ∗ tilePts false 1 0 c fullShare.right (ring m false c)
            ∗ semVal (cell c (some (true, false, 0, 0))) 0 ∗ going c (todo 4))
            -∗ Q (Scalar.remsi v149 c4))
          -∗ runs c ((onBufs (k0_part6 (F := F)) :) v5 v7 v149 c4) Q) := by
  unfold onBufs runs
  rw [k0_part6_eq_skeleton]; unfold k0_part6_skel
  simp only [Prog.lift, Prog.bind_op, Prog.bind_ret, Prog.pure_eq_ret]
  iintro ⟨#HB, HA100, HA000, HO⟩ Hk
  iapply (wp_arrive m K (true, 0, 0) c (todo 4) (by decide) (N_eq true 1 0) rfl) $$ [HA100 HO]
  · isplitr; · iexact HB
    isplitl [HA100]; · iexact HA100
    iexact HO
  iintro ⟨HL110, HR110, HZ100, HO⟩
  iapply (wp_arrive m K (false, 0, 0) c (todo 4) (by decide) (N_eq false 1 0) rfl) $$ [HA000 HO]
  · isplitr; · iexact HB
    isplitl [HA000]; · iexact HA000
    iexact HO
  iintro ⟨HL010, HR010, HZ000, HO⟩
  rw [wp_ret]; imodintro; iapply Hk
  isplitl [HL110]; · iexact HL110
  isplitl [HR110]; · iexact HR110
  isplitl [HZ100]; · iexact HZ100
  isplitl [HL010]; · iexact HL010
  isplitl [HR010]; · iexact HR010
  isplitl [HZ000]; · iexact HZ000
  iexact HO

/-- They are sent on, and one is used. -/
theorem run_part7 (c : Dev nD) (v5 : BitVec 32) (v66 : FVec F S1024x256 .f32) (v68 : IVec S1024x1 32) (v87 : FVec F S1024x1 .f32) (v145 : FVec F S1024x512 .f32) (v148 v150 : BitVec 32) (Q : (Σ' (v199 : FVec F S1024x512 .f32), BitVec 32) → sProp 𝕄) :
    iprop(book m K ∗ ready c (true, 1, 0) ∗ (∃ f, tilePts true 2 0 (tgt true c) fullShare f) ∗ tilePts true 1 0 c fullShare.right (ring m true c)
        ∗ ready c (false, 1, 0) ∗ (∃ f, tilePts false 2 0 (tgt false c) fullShare f) ∗ tilePts false 1 0 c fullShare.right (ring m false c)
        ∗ tilePts true 1 0 c fullShare.left (ring m true c) ∗ going c (todo 4))
      ⊢ iprop(((tilePts true 1 0 c fullShare.left (ring m true c) ∗ flying c (true, 1, 0) ∗ flying c (false, 1, 0) ∗ going c (todo 6))
            -∗ Q ⟨k0_pay12 v66 v68 v87 v145 v148 (tile m true 1 0 c), Scalar.muli v150 4#32⟩)
          -∗ runs c ((onBufs (k0_part7 (F := F)) :) c v5 v66 v68 v87 v145 v148 v150) Q) := by
  unfold onBufs runs
  rw [k0_part7_eq_skeleton]; unfold k0_part7_skel
  simp only [Prog.lift, Prog.bind_op, Prog.bind_ret, Prog.pure_eq_ret]
  iintro ⟨#HB, HD110, HT110, HR110, HD010, HT010, HR010, HL110, HO⟩ Hk
  iapply (wp_ship m K (true, 1, 0) c _ (Fin.ext (k0_dev7_eq c)) (todo 5) rfl rfl rfl rfl) $$ [HD110 HT110 HR110 HO]
  · isplitr; · iexact HB
    isplitl [HD110]; · iexact HD110
    isplitl [HT110]; · iexact HT110
    isplitl [HR110]; · iexact HR110
    iexact HO
  iintro ⟨HF110, HO⟩
  iapply (wp_ship m K (false, 1, 0) c _ (Fin.ext (k0_dev8_eq c)) (todo 6) rfl rfl rfl rfl) $$ [HD010 HT010 HR010 HO]
  · isplitr; · iexact HB
    isplitl [HD010]; · iexact HD010
    isplitl [HT010]; · iexact HT010
    isplitl [HR010]; · iexact HR010
    iexact HO
  iintro ⟨HF010, HO⟩
  iapply (wp_peek_true m 1 0 c fullShare.left) $$ [HL110]
  · iexact HL110
  iintro HL110
  rw [wp_ret]; imodintro; iapply Hk
  isplitl [HL110]; · iexact HL110
  isplitl [HF110]; · iexact HF110
  isplitl [HF010]; · iexact HF010
  iexact HO

/-- The other is used; a further arrival. -/
theorem run_part8 (c : Dev nD) (v5 v7 : BitVec 32) (v66 : FVec F S1024x256 .f32) (v68 : IVec S1024x1 32) (v87 : FVec F S1024x1 .f32) (v199 : FVec F S1024x512 .f32) (v200 : BitVec 32) (Q : (FVec F S1024x512 .f32) → sProp 𝕄) :
    iprop(book m K ∗ tilePts false 1 0 c fullShare.left (ring m false c) ∗ awaited c (true, 0, 1) ∗ going c (todo 6))
      ⊢ iprop(((tilePts false 1 0 c fullShare.left (ring m false c) ∗ tilePts true 1 1 c fullShare.left (ring m true c)
            ∗ tilePts true 1 1 c fullShare.right (ring m true c) ∗ semVal (cell c (some (true, true, 0, 1))) 0 ∗ going c (todo 6))
            -∗ Q (k0_pay13 v66 v68 v87 v199 v200 (tile m false 1 0 c)))
          -∗ runs c ((onBufs (k0_part8 (F := F)) :) v5 v7 v66 v68 v87 v199 v200) Q) := by
  unfold onBufs runs
  rw [k0_part8_eq_skeleton]; unfold k0_part8_skel
  simp only [Prog.lift, Prog.bind_op, Prog.bind_ret, Prog.pure_eq_ret]
  iintro ⟨#HB, HL010, HA101, HO⟩ Hk
  iapply (wp_peek_false m 1 0 c fullShare.left) $$ [HL010]
  · iexact HL010
  iintro HL010
  iapply (wp_arrive m K (true, 0, 1) c (todo 6) (by decide) (N_eq true 1 1) rfl) $$ [HA101 HO]
  · isplitr; · iexact HB
    isplitl [HA101]; · iexact HA101
    iexact HO
  iintro ⟨HL111, HR111, HZ101, HO⟩
  rw [wp_ret]; imodintro; iapply Hk
  isplitl [HL010]; · iexact HL010
  isplitl [HL111]; · iexact HL111
  isplitl [HR111]; · iexact HR111
  isplitl [HZ101]; · iexact HZ101
  iexact HO

/-- The last arrival of the first hop; both are sent on. -/
theorem run_part9 (c : Dev nD) (v5 v7 v148 : BitVec 32) (Q : (Σ' (v250 : BitVec 32), BitVec 32) → sProp 𝕄) :
    iprop(book m K ∗ awaited c (false, 0, 1) ∗ ready c (true, 1, 1) ∗ (∃ f, tilePts true 2 1 (tgt true c) fullShare f)
        ∗ tilePts true 1 1 c fullShare.right (ring m true c) ∗ ready c (false, 1, 1) ∗ (∃ f, tilePts false 2 1 (tgt false c) fullShare f) ∗ going c (todo 6))
      ⊢ iprop(((tilePts false 1 1 c fullShare.left (ring m false c) ∗ semVal (cell c (some (true, false, 0, 1))) 0 ∗ flying c (true, 1, 1) ∗ flying c (false, 1, 1)
            ∗ going c (todo 8))
            -∗ Q ⟨Scalar.muli v148 4#32, 1#32⟩)
          -∗ runs c ((onBufs (k0_part9 (F := F)) :) c v5 v7 v148) Q) := by
  unfold onBufs runs
  rw [k0_part9_eq_skeleton]; unfold k0_part9_skel
  simp only [Prog.lift, Prog.bind_op, Prog.bind_ret, Prog.pure_eq_ret]
  iintro ⟨#HB, HA001, HD111, HT111, HR111, HD011, HT011, HO⟩ Hk
  iapply (wp_arrive m K (false, 0, 1) c (todo 6) (by decide) (N_eq false 1 1) rfl) $$ [HA001 HO]
  · isplitr; · iexact HB
    isplitl [HA001]; · iexact HA001
    iexact HO
  iintro ⟨HL011, HR011, HZ001, HO⟩
  iapply (wp_ship m K (true, 1, 1) c _ (Fin.ext (k0_dev9_eq c)) (todo 7) rfl rfl rfl rfl) $$ [HD111 HT111 HR111 HO]
  · isplitr; · iexact HB
    isplitl [HD111]; · iexact HD111
    isplitl [HT111]; · iexact HT111
    isplitl [HR111]; · iexact HR111
    iexact HO
  iintro ⟨HF111, HO⟩
  iapply (wp_ship m K (false, 1, 1) c _ (Fin.ext (k0_dev10_eq c)) (todo 8) rfl rfl rfl rfl) $$ [HD011 HT011 HR011 HO]
  · isplitr; · iexact HB
    isplitl [HD011]; · iexact HD011
    isplitl [HT011]; · iexact HT011
    isplitl [HR011]; · iexact HR011
    iexact HO
  iintro ⟨HF011, HO⟩
  rw [wp_ret]; imodintro; iapply Hk
  isplitl [HL011]; · iexact HL011
  isplitl [HZ001]; · iexact HZ001
  isplitl [HF111]; · iexact HF111
  isplitl [HF011]; · iexact HF011
  iexact HO

/-- Both are used, and the shared expert. -/
theorem run_part10 (c : Dev nD) (v66 : FVec F S1024x256 .f32) (v68 : IVec S1024x1 32) (v87 : FVec F S1024x1 .f32) (v150 : BitVec 32) (v213 : FVec F S1024x512 .f32) (v250 c1 : BitVec 32) (Q : (FVec F S1024x512 .f32) → sProp 𝕄) :
    iprop(tilePts true 1 1 c fullShare.left (ring m true c) ∗ tilePts false 1 1 c fullShare.left (ring m false c) ∗ pS m c)
      ⊢ iprop(((tilePts true 1 1 c fullShare.left (ring m true c) ∗ tilePts false 1 1 c fullShare.left (ring m false c) ∗ pS m c)
            -∗ Q (k0_pay14 v66 v68 v87 v150 v213 v250 c1 (tile m true 1 1 c) (tile m false 1 1 c) (stS m c)))
          -∗ runs c ((onBufs (k0_part10 (F := F)) :) v66 v68 v87 v150 v213 v250 c1) Q) := by
  unfold onBufs runs
  rw [k0_part10_eq_skeleton]; unfold k0_part10_skel
  simp only [Prog.lift, Prog.bind_op, Prog.bind_ret, Prog.pure_eq_ret]
  iintro ⟨HL111, HL011, HSin⟩ Hk
  iapply (wp_peek_true m 1 1 c fullShare.left) $$ [HL111]
  · iexact HL111
  iintro HL111
  iapply (wp_peek_false m 1 1 c fullShare.left) $$ [HL011]
  · iexact HL011
  iintro HL011
  iapply (wp_look_s m c) $$ HSin; iintro HSin
  rw [wp_ret]; imodintro; iapply Hk
  isplitl [HL111]; · iexact HL111
  isplitl [HL011]; · iexact HL011
  iexact HSin

end Cert.Moe

end
-- ==== Proof.PartsB.lean ====
/-
  The body's later parts.
-/
module

public import proofs.«01_k».proof.Proof.Looks

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Spot → ℕ)

/-- Read-outs of the first hop. -/
theorem run_part11 (c : Dev nD) (Q : (PUnit) → sProp 𝕄) :
    iprop(book m K ∗ flying c (true, 0, 0) ∗ flying c (false, 0, 0) ∗ flying c (true, 0, 1) ∗ going c (todo 8))
      ⊢ iprop(((tilePts true 0 0 c fullShare.right (ring m true c) ∗ semVal (cell c (some (false, true, 0, 0))) 0
            ∗ tilePts false 0 0 c fullShare.right (ring m false c) ∗ semVal (cell c (some (false, false, 0, 0))) 0
            ∗ tilePts true 0 1 c fullShare.right (ring m true c) ∗ semVal (cell c (some (false, true, 0, 1))) 0 ∗ going c (todo 8))
            -∗ Q PUnit.unit)
          -∗ runs c ((onBufs (k0_part11 (F := F)) :)) Q) := by
  unfold onBufs runs
  rw [k0_part11_eq_skeleton]; unfold k0_part11_skel
  simp only [Prog.lift, Prog.bind_op, Prog.bind_ret, Prog.pure_eq_ret]
  iintro ⟨#HB, HF100, HF000, HF101, HO⟩ Hk
  iapply (wp_drain m K (true, 0, 0) c (todo 8) (N_eq true 0 0) rfl) $$ [HF100 HO]
  · isplitr; · iexact HB
    isplitl [HF100]; · iexact HF100
    iexact HO
  iintro ⟨HR100, HY100, HO⟩
  iapply (wp_drain m K (false, 0, 0) c (todo 8) (N_eq false 0 0) rfl) $$ [HF000 HO]
  · isplitr; · iexact HB
    isplitl [HF000]; · iexact HF000
    iexact HO
  iintro ⟨HR000, HY000, HO⟩
  iapply (wp_drain m K (true, 0, 1) c (todo 8) (N_eq true 0 1) rfl) $$ [HF101 HO]
  · isplitr; · iexact HB
    isplitl [HF101]; · iexact HF101
    iexact HO
  iintro ⟨HR101, HY101, HO⟩
  rw [wp_ret]; imodintro; iapply Hk
  isplitl [HR100]; · iexact HR100
  isplitl [HY100]; · iexact HY100
  isplitl [HR000]; · iexact HR000
  isplitl [HY000]; · iexact HY000
  isplitl [HR101]; · iexact HR101
  isplitl [HY101]; · iexact HY101
  iexact HO

/-- The last of them; the first arrival of the second hop. -/
theorem run_part12 (c : Dev nD) (v2 v5 v7 : BitVec 32) (Q : (Σ' (v307 : BitVec 32), BitVec 32) → sProp 𝕄) :
    iprop(book m K ∗ flying c (false, 0, 1) ∗ awaited c (true, 1, 0) ∗ going c (todo 8))
      ⊢ iprop(((tilePts false 0 1 c fullShare.right (ring m false c) ∗ semVal (cell c (some (false, false, 0, 1))) 0
            ∗ tilePts true 2 0 c fullShare.left (ring m true c) ∗ tilePts true 2 0 c fullShare.right (ring m true c) ∗ semVal (cell c (some (true, true, 1, 0))) 0
            ∗ going c (todo 8))
            -∗ Q ⟨Scalar.remsi (Scalar.addi (Scalar.subi v2 2#32) 4#32) 4#32, Scalar.remsi (Scalar.addi v2 2#32) 4#32⟩)
          -∗ runs c ((onBufs (k0_part12 (F := F)) :) v2 v5 v7) Q) := by
  unfold onBufs runs
  rw [k0_part12_eq_skeleton]; unfold k0_part12_skel
  simp only [Prog.lift, Prog.bind_op, Prog.bind_ret, Prog.pure_eq_ret]
  iintro ⟨#HB, HF001, HA110, HO⟩ Hk
  iapply (wp_drain m K (false, 0, 1) c (todo 8) (N_eq false 0 1) rfl) $$ [HF001 HO]
  · isplitr; · iexact HB
    isplitl [HF001]; · iexact HF001
    iexact HO
  iintro ⟨HR001, HY001, HO⟩
  iapply (wp_arrive m K (true, 1, 0) c (todo 8) (by decide) (N_eq true 2 0) rfl) $$ [HA110 HO]
  · isplitr; · iexact HB
    isplitl [HA110]; · iexact HA110
    iexact HO
  iintro ⟨HL120, HR120, HZ110, HO⟩
  rw [wp_ret]; imodintro; iapply Hk
  isplitl [HR001]; · iexact HR001
  isplitl [HY001]; · iexact HY001
  isplitl [HL120]; · iexact HL120
  isplitl [HR120]; · iexact HR120
  isplitl [HZ110]; · iexact HZ110
  iexact HO

/-- The next, and both are sent on. -/
theorem run_part13 (c : Dev nD) (v5 v7 v307 : BitVec 32) (Q : (BitVec 32) → sProp 𝕄) :
    iprop(book m K ∗ awaited c (false, 1, 0) ∗ ready c (true, 2, 0) ∗ (∃ f, tilePts true 3 0 (tgt true c) fullShare f)
        ∗ tilePts true 2 0 c fullShare.right (ring m true c) ∗ ready c (false, 2, 0) ∗ (∃ f, tilePts false 3 0 (tgt false c) fullShare f) ∗ going c (todo 8))
      ⊢ iprop(((tilePts false 2 0 c fullShare.left (ring m false c) ∗ semVal (cell c (some (true, false, 1, 0))) 0 ∗ flying c (true, 2, 0) ∗ flying c (false, 2, 0)
            ∗ going c (todo 10))
            -∗ Q (Scalar.addi (Scalar.muli v307 4#32) 0#32))
          -∗ runs c ((onBufs (k0_part13 (F := F)) :) c v5 v7 v307) Q) := by
  unfold onBufs runs
  rw [k0_part13_eq_skeleton]; unfold k0_part13_skel
  simp only [Prog.lift, Prog.bind_op, Prog.bind_ret, Prog.pure_eq_ret]
  iintro ⟨#HB, HA010, HD120, HT120, HR120, HD020, HT020, HO⟩ Hk
  iapply (wp_arrive m K (false, 1, 0) c (todo 8) (by decide) (N_eq false 2 0) rfl) $$ [HA010 HO]
  · isplitr; · iexact HB
    isplitl [HA010]; · iexact HA010
    iexact HO
  iintro ⟨HL020, HR020, HZ010, HO⟩
  iapply (wp_ship m K (true, 2, 0) c _ (Fin.ext (k0_dev11_eq c)) (todo 9) rfl rfl rfl rfl) $$ [HD120 HT120 HR120 HO]
  · isplitr; · iexact HB
    isplitl [HD120]; · iexact HD120
    isplitl [HT120]; · iexact HT120
    isplitl [HR120]; · iexact HR120
    iexact HO
  iintro ⟨HF120, HO⟩
  iapply (wp_ship m K (false, 2, 0) c _ (Fin.ext (k0_dev12_eq c)) (todo 10) rfl rfl rfl rfl) $$ [HD020 HT020 HR020 HO]
  · isplitr; · iexact HB
    isplitl [HD020]; · iexact HD020
    isplitl [HT020]; · iexact HT020
    isplitl [HR020]; · iexact HR020
    iexact HO
  iintro ⟨HF020, HO⟩
  rw [wp_ret]; imodintro; iapply Hk
  isplitl [HL020]; · iexact HL020
  isplitl [HZ010]; · iexact HZ010
  isplitl [HF120]; · iexact HF120
  isplitl [HF020]; · iexact HF020
  iexact HO

/-- Both are used. -/
theorem run_part14 (c : Dev nD) (v7 : BitVec 32) (v66 : FVec F S1024x256 .f32) (v68 : IVec S1024x1 32) (v87 : FVec F S1024x1 .f32) (v280 : FVec F S1024x512 .f32) (v309 v347 : BitVec 32) (Q : (FVec F S1024x512 .f32) → sProp 𝕄) :
    iprop(tilePts true 2 0 c fullShare.left (ring m true c) ∗ tilePts false 2 0 c fullShare.left (ring m false c))
      ⊢ iprop(((tilePts true 2 0 c fullShare.left (ring m true c) ∗ tilePts false 2 0 c fullShare.left (ring m false c))
            -∗ Q (k0_pay15 v66 v68 v87 v280 v309 v347 (tile m true 2 0 c) (tile m false 2 0 c)))
          -∗ runs c ((onBufs (k0_part14 (F := F)) :) v7 v66 v68 v87 v280 v309 v347) Q) := by
  unfold onBufs runs
  rw [k0_part14_eq_skeleton]; unfold k0_part14_skel
  simp only [Prog.lift, Prog.bind_op, Prog.bind_ret, Prog.pure_eq_ret]
  iintro ⟨HL120, HL020⟩ Hk
  iapply (wp_peek_true m 2 0 c fullShare.left) $$ [HL120]
  · iexact HL120
  iintro HL120
  iapply (wp_peek_false m 2 0 c fullShare.left) $$ [HL020]
  · iexact HL020
  iintro HL020
  rw [wp_ret]; imodintro; iapply Hk
  isplitl [HL120]; · iexact HL120
  iexact HL020

/-- The other arrivals of the second hop; one is sent on. -/
theorem run_part15 (c : Dev nD) (v5 v7 : BitVec 32) (Q : (Σ' (v399 : BitVec 32), BitVec 32) → sProp 𝕄) :
    iprop(book m K ∗ awaited c (true, 1, 1) ∗ awaited c (false, 1, 1) ∗ ready c (true, 2, 1) ∗ (∃ f, tilePts true 3 1 (tgt true c) fullShare f)
        ∗ going c (todo 10))
      ⊢ iprop(((tilePts true 2 1 c fullShare.left (ring m true c) ∗ semVal (cell c (some (true, true, 1, 1))) 0 ∗ tilePts false 2 1 c fullShare.left (ring m false c)
            ∗ tilePts false 2 1 c fullShare.right (ring m false c) ∗ semVal (cell c (some (true, false, 1, 1))) 0 ∗ flying c (true, 2, 1) ∗ going c (todo 11))
            -∗ Q ⟨Scalar.muli v5 1#32, 0#32⟩)
          -∗ runs c ((onBufs (k0_part15 (F := F)) :) c v5 v7) Q) := by
  unfold onBufs runs
  rw [k0_part15_eq_skeleton]; unfold k0_part15_skel
  simp only [Prog.lift, Prog.bind_op, Prog.bind_ret, Prog.pure_eq_ret]
  iintro ⟨#HB, HA111, HA011, HD121, HT121, HO⟩ Hk
  iapply (wp_arrive m K (true, 1, 1) c (todo 10) (by decide) (N_eq true 2 1) rfl) $$ [HA111 HO]
  · isplitr; · iexact HB
    isplitl [HA111]; · iexact HA111
    iexact HO
  iintro ⟨HL121, HR121, HZ111, HO⟩
  iapply (wp_arrive m K (false, 1, 1) c (todo 10) (by decide) (N_eq false 2 1) rfl) $$ [HA011 HO]
  · isplitr; · iexact HB
    isplitl [HA011]; · iexact HA011
    iexact HO
  iintro ⟨HL021, HR021, HZ011, HO⟩
  iapply (wp_ship m K (true, 2, 1) c _ (Fin.ext (k0_dev13_eq c)) (todo 11) rfl rfl rfl rfl) $$ [HD121 HT121 HR121 HO]
  · isplitr; · iexact HB
    isplitl [HD121]; · iexact HD121
    isplitl [HT121]; · iexact HT121
    isplitl [HR121]; · iexact HR121
    iexact HO
  iintro ⟨HF121, HO⟩
  rw [wp_ret]; imodintro; iapply Hk
  isplitl [HL121]; · iexact HL121
  isplitl [HZ111]; · iexact HZ111
  isplitl [HL021]; · iexact HL021
  isplitl [HR021]; · iexact HR021
  isplitl [HZ011]; · iexact HZ011
  isplitl [HF121]; · iexact HF121
  iexact HO

/-- The last copy; both are used. -/
theorem run_part16 (c : Dev nD) (v66 : FVec F S1024x256 .f32) (v68 : IVec S1024x1 32) (v87 : FVec F S1024x1 .f32) (v307 v309 : BitVec 32) (v372 : FVec F S1024x512 .f32) (v399 c0 : BitVec 32) (Q : (FVec F S1024x512 .f32) → sProp 𝕄) :
    iprop(book m K ∗ ready c (false, 2, 1) ∗ (∃ f, tilePts false 3 1 (tgt false c) fullShare f) ∗ tilePts false 2 1 c fullShare.right (ring m false c)
        ∗ tilePts true 2 1 c fullShare.left (ring m true c) ∗ tilePts false 2 1 c fullShare.left (ring m false c) ∗ going c (todo 11))
      ⊢ iprop(((tilePts true 2 1 c fullShare.left (ring m true c) ∗ tilePts false 2 1 c fullShare.left (ring m false c) ∗ flying c (false, 2, 1) ∗ going c (todo 12))
            -∗ Q (k0_pay16 v66 v68 v87 v307 v309 v372 (tile m true 2 1 c) (tile m false 2 1 c)))
          -∗ runs c ((onBufs (k0_part16 (F := F)) :) c v66 v68 v87 v307 v309 v372 v399 c0) Q) := by
  unfold onBufs runs
  rw [k0_part16_eq_skeleton]; unfold k0_part16_skel
  simp only [Prog.lift, Prog.bind_op, Prog.bind_ret, Prog.pure_eq_ret]
  iintro ⟨#HB, HD021, HT021, HR021, HL121, HL021, HO⟩ Hk
  iapply (wp_ship m K (false, 2, 1) c _ (Fin.ext (k0_dev14_eq c)) (todo 12) rfl rfl rfl rfl) $$ [HD021 HT021 HR021 HO]
  · isplitr; · iexact HB
    isplitl [HD021]; · iexact HD021
    isplitl [HT021]; · iexact HT021
    isplitl [HR021]; · iexact HR021
    iexact HO
  iintro ⟨HF021, HO⟩
  iapply (wp_peek_true m 2 1 c fullShare.left) $$ [HL121]
  · iexact HL121
  iintro HL121
  iapply (wp_peek_false m 2 1 c fullShare.left) $$ [HL021]
  · iexact HL021
  iintro HL021
  rw [wp_ret]; imodintro; iapply Hk
  isplitl [HL121]; · iexact HL121
  isplitl [HL021]; · iexact HL021
  isplitl [HF021]; · iexact HF021
  iexact HO

/-- Read-outs of the second hop. -/
theorem run_part17 (c : Dev nD) (Q : (PUnit) → sProp 𝕄) :
    iprop(book m K ∗ flying c (true, 1, 0) ∗ flying c (false, 1, 0) ∗ flying c (true, 1, 1) ∗ going c (todo 12))
      ⊢ iprop(((tilePts true 1 0 c fullShare.right (ring m true c) ∗ semVal (cell c (some (false, true, 1, 0))) 0
            ∗ tilePts false 1 0 c fullShare.right (ring m false c) ∗ semVal (cell c (some (false, false, 1, 0))) 0
            ∗ tilePts true 1 1 c fullShare.right (ring m true c) ∗ semVal (cell c (some (false, true, 1, 1))) 0 ∗ going c (todo 12))
            -∗ Q PUnit.unit)
          -∗ runs c ((onBufs (k0_part17 (F := F)) :)) Q) := by
  unfold onBufs runs
  rw [k0_part17_eq_skeleton]; unfold k0_part17_skel
  simp only [Prog.lift, Prog.bind_op, Prog.bind_ret, Prog.pure_eq_ret]
  iintro ⟨#HB, HF110, HF010, HF111, HO⟩ Hk
  iapply (wp_drain m K (true, 1, 0) c (todo 12) (N_eq true 1 0) rfl) $$ [HF110 HO]
  · isplitr; · iexact HB
    isplitl [HF110]; · iexact HF110
    iexact HO
  iintro ⟨HR110, HY110, HO⟩
  iapply (wp_drain m K (false, 1, 0) c (todo 12) (N_eq false 1 0) rfl) $$ [HF010 HO]
  · isplitr; · iexact HB
    isplitl [HF010]; · iexact HF010
    iexact HO
  iintro ⟨HR010, HY010, HO⟩
  iapply (wp_drain m K (true, 1, 1) c (todo 12) (N_eq true 1 1) rfl) $$ [HF111 HO]
  · isplitr; · iexact HB
    isplitl [HF111]; · iexact HF111
    iexact HO
  iintro ⟨HR111, HY111, HO⟩
  rw [wp_ret]; imodintro; iapply Hk
  isplitl [HR110]; · iexact HR110
  isplitl [HY110]; · iexact HY110
  isplitl [HR010]; · iexact HR010
  isplitl [HY010]; · iexact HY010
  isplitl [HR111]; · iexact HR111
  isplitl [HY111]; · iexact HY111
  iexact HO

/-- The last of them; the first arrival of the third hop. -/
theorem run_part18 (c : Dev nD) (v2 v7 : BitVec 32) (Q : (Σ' (v462 : BitVec 32) (v464 : BitVec 32), BitVec 32) → sProp 𝕄) :
    iprop(book m K ∗ flying c (false, 1, 1) ∗ awaited c (true, 2, 0) ∗ going c (todo 12))
      ⊢ iprop(((tilePts false 1 1 c fullShare.right (ring m false c) ∗ semVal (cell c (some (false, false, 1, 1))) 0
            ∗ tilePts true 3 0 c fullShare.left (ring m true c) ∗ tilePts true 3 0 c fullShare.right (ring m true c) ∗ semVal (cell c (some (true, true, 2, 0))) 0
            ∗ going c (todo 12))
            -∗ Q ⟨Scalar.remsi (Scalar.addi (Scalar.subi v2 3#32) 4#32) 4#32, Scalar.remsi (Scalar.addi v2 3#32) 4#32, 1#32⟩)
          -∗ runs c ((onBufs (k0_part18 (F := F)) :) v2 v7) Q) := by
  unfold onBufs runs
  rw [k0_part18_eq_skeleton]; unfold k0_part18_skel
  simp only [Prog.lift, Prog.bind_op, Prog.bind_ret, Prog.pure_eq_ret]
  iintro ⟨#HB, HF011, HA120, HO⟩ Hk
  iapply (wp_drain m K (false, 1, 1) c (todo 12) (N_eq false 1 1) rfl) $$ [HF011 HO]
  · isplitr; · iexact HB
    isplitl [HF011]; · iexact HF011
    iexact HO
  iintro ⟨HR011, HY011, HO⟩
  iapply (wp_arrive m K (true, 2, 0) c (todo 12) (by decide) (N_eq true 3 0) rfl) $$ [HA120 HO]
  · isplitr; · iexact HB
    isplitl [HA120]; · iexact HA120
    iexact HO
  iintro ⟨HL130, HR130, HZ120, HO⟩
  rw [wp_ret]; imodintro; iapply Hk
  isplitl [HR011]; · iexact HR011
  isplitl [HY011]; · iexact HY011
  isplitl [HL130]; · iexact HL130
  isplitl [HR130]; · iexact HR130
  isplitl [HZ120]; · iexact HZ120
  iexact HO

/-- The next, and both are used. -/
theorem run_part19 (c : Dev nD) (v5 : BitVec 32) (v66 : FVec F S1024x256 .f32) (v68 : IVec S1024x1 32) (v87 : FVec F S1024x1 .f32) (v435 : FVec F S1024x512 .f32) (v462 v464 c1 : BitVec 32) (Q : (FVec F S1024x512 .f32) → sProp 𝕄) :
    iprop(book m K ∗ awaited c (false, 2, 0) ∗ tilePts true 3 0 c fullShare.left (ring m true c) ∗ going c (todo 12))
      ⊢ iprop(((tilePts true 3 0 c fullShare.left (ring m true c) ∗ tilePts false 3 0 c fullShare.left (ring m false c)
            ∗ tilePts false 3 0 c fullShare.right (ring m false c) ∗ semVal (cell c (some (true, false, 2, 0))) 0 ∗ going c (todo 12))
            -∗ Q (k0_pay17 v66 v68 v87 v435 v462 v464 (tile m true 3 0 c) (tile m false 3 0 c)))
          -∗ runs c ((onBufs (k0_part19 (F := F)) :) v5 v66 v68 v87 v435 v462 v464 c1) Q) := by
  unfold onBufs runs
  rw [k0_part19_eq_skeleton]; unfold k0_part19_skel
  simp only [Prog.lift, Prog.bind_op, Prog.bind_ret, Prog.pure_eq_ret]
  iintro ⟨#HB, HA020, HL130, HO⟩ Hk
  iapply (wp_arrive m K (false, 2, 0) c (todo 12) (by decide) (N_eq false 3 0) rfl) $$ [HA020 HO]
  · isplitr; · iexact HB
    isplitl [HA020]; · iexact HA020
    iexact HO
  iintro ⟨HL030, HR030, HZ020, HO⟩
  iapply (wp_peek_true m 3 0 c fullShare.left) $$ [HL130]
  · iexact HL130
  iintro HL130
  iapply (wp_peek_false m 3 0 c fullShare.left) $$ [HL030]
  · iexact HL030
  iintro HL030
  rw [wp_ret]; imodintro; iapply Hk
  isplitl [HL130]; · iexact HL130
  isplitl [HL030]; · iexact HL030
  isplitl [HR030]; · iexact HR030
  isplitl [HZ020]; · iexact HZ020
  iexact HO

/-- The last arrivals; one is used. -/
theorem run_part20 (c : Dev nD) (v5 v7 : BitVec 32) (v68 : IVec S1024x1 32) (v87 : FVec F S1024x1 .f32) (v462 : BitVec 32) (Q : (Σ' (v527 : FVec F S256x512 .bf16), FVec F S1024x256 .f32) → sProp 𝕄) :
    iprop(book m K ∗ awaited c (true, 2, 1) ∗ awaited c (false, 2, 1) ∗ going c (todo 12))
      ⊢ iprop(((tilePts true 3 1 c fullShare.left (ring m true c) ∗ tilePts true 3 1 c fullShare.right (ring m true c) ∗ semVal (cell c (some (true, true, 2, 1))) 0
            ∗ tilePts false 3 1 c fullShare.left (ring m false c) ∗ tilePts false 3 1 c fullShare.right (ring m false c)
            ∗ semVal (cell c (some (true, false, 2, 1))) 0 ∗ going c (todo 12))
            -∗ Q ⟨k0_pay18 (tile m true 3 1 c), k0_pay19 v68 v87 v462⟩)
          -∗ runs c ((onBufs (k0_part20 (F := F)) :) v5 v7 v68 v87 v462) Q) := by
  unfold onBufs runs
  rw [k0_part20_eq_skeleton]; unfold k0_part20_skel
  simp only [Prog.lift, Prog.bind_op, Prog.bind_ret, Prog.pure_eq_ret]
  iintro ⟨#HB, HA121, HA021, HO⟩ Hk
  iapply (wp_arrive m K (true, 2, 1) c (todo 12) (by decide) (N_eq true 3 1) rfl) $$ [HA121 HO]
  · isplitr; · iexact HB
    isplitl [HA121]; · iexact HA121
    iexact HO
  iintro ⟨HL131, HR131, HZ121, HO⟩
  iapply (wp_arrive m K (false, 2, 1) c (todo 12) (by decide) (N_eq false 3 1) rfl) $$ [HA021 HO]
  · isplitr; · iexact HB
    isplitl [HA021]; · iexact HA021
    iexact HO
  iintro ⟨HL031, HR031, HZ021, HO⟩
  iapply (wp_peek_true m 3 1 c fullShare.left) $$ [HL131]
  · iexact HL131
  iintro HL131
  rw [wp_ret]; imodintro; iapply Hk
  isplitl [HL131]; · iexact HL131
  isplitl [HR131]; · iexact HR131
  isplitl [HZ121]; · iexact HZ121
  isplitl [HL031]; · iexact HL031
  isplitl [HR031]; · iexact HR031
  isplitl [HZ021]; · iexact HZ021
  iexact HO

/-- The last tile is used; the first read-out of the third hop. -/
theorem run_part21 (c : Dev nD) (v66 : FVec F S1024x256 .f32) (v68 : IVec S1024x1 32) (v87 : FVec F S1024x1 .f32) (v464 : BitVec 32) (v507 : FVec F S1024x512 .f32) (v527 : FVec F S256x512 .bf16) (v532 : FVec F S1024x256 .f32) (Q : (FVec F S1024x512 .f32) → sProp 𝕄) :
    iprop(book m K ∗ tilePts false 3 1 c fullShare.left (ring m false c) ∗ flying c (true, 2, 0) ∗ going c (todo 12))
      ⊢ iprop(((tilePts false 3 1 c fullShare.left (ring m false c) ∗ tilePts true 2 0 c fullShare.right (ring m true c)
            ∗ semVal (cell c (some (false, true, 2, 0))) 0 ∗ going c (todo 12))
            -∗ Q (k0_pay20 v66 v68 v87 v464 v507 v527 v532 (tile m false 3 1 c)))
          -∗ runs c ((onBufs (k0_part21 (F := F)) :) v66 v68 v87 v464 v507 v527 v532) Q) := by
  unfold onBufs runs
  rw [k0_part21_eq_skeleton]; unfold k0_part21_skel
  simp only [Prog.lift, Prog.bind_op, Prog.bind_ret, Prog.pure_eq_ret]
  iintro ⟨#HB, HL031, HF120, HO⟩ Hk
  iapply (wp_peek_false m 3 1 c fullShare.left) $$ [HL031]
  · iexact HL031
  iintro HL031
  iapply (wp_drain m K (true, 2, 0) c (todo 12) (N_eq true 2 0) rfl) $$ [HF120 HO]
  · isplitr; · iexact HB
    isplitl [HF120]; · iexact HF120
    iexact HO
  iintro ⟨HR120, HY120, HO⟩
  rw [wp_ret]; imodintro; iapply Hk
  isplitl [HL031]; · iexact HL031
  isplitl [HR120]; · iexact HR120
  isplitl [HY120]; · iexact HY120
  iexact HO

end Cert.Moe

end
-- ==== Proof.Whole.lean ====
/-
  The whole body, its parts in their order.
-/
module

public import proofs.«01_k».proof.Proof.PartOne
public import proofs.«01_k».proof.Proof.PartsA
public import proofs.«01_k».proof.Proof.PartsB

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Spot → ℕ)

/-- Something for every copy. -/
theorem lanes_all (Φ : Lane → sProp 𝕄) : bigSep Finset.univ Φ = iprop(Φ (true, 0, 0) ∗ Φ (false, 0, 0) ∗ Φ (true, 0, 1) ∗ Φ (false, 0, 1) ∗ Φ (true, 1, 0) ∗ Φ (false, 1, 0) ∗ Φ (true, 1, 1)
    ∗ Φ (false, 1, 1) ∗ Φ (true, 2, 0) ∗ Φ (false, 2, 0) ∗ Φ (true, 2, 1) ∗ Φ (false, 2, 1)) :=
  bigSep_univ_eq_bigSepL order (by decide) (by decide) Φ

/-- Something for every tile the copies write. -/
theorem tiles_all (Φ : Fin 3 × Fin 2 → sProp 𝕄) : bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

/-- The room of a neighbour, tile by tile. -/
theorem room_all (w : Bool) (c : Dev nD) : (room (F := F) w c : sProp 𝕄) ⊢ iprop((∃ f, tilePts (F := F) w 1 0 c fullShare f) ∗ (∃ f, tilePts (F := F) w 1 1 c fullShare f)
    ∗ (∃ f, tilePts (F := F) w 2 0 c fullShare f) ∗ (∃ f, tilePts (F := F) w 2 1 c fullShare f)
    ∗ (∃ f, tilePts (F := F) w 3 0 c fullShare f) ∗ (∃ f, tilePts (F := F) w 3 1 c fullShare f)) :=
  Entails.of_eq (tiles_all fun y => iprop(∃ f, tilePts w y.1.succ y.2 c fullShare f))

/-- The semaphores of the copies, read-outs first. -/
def spots : List (Bool × Lane) :=
  [(false, true, 0, 0), (false, false, 0, 0), (false, true, 0, 1), (false, false, 0, 1), (false, true, 1, 0),
    (false, false, 1, 0), (false, true, 1, 1), (false, false, 1, 1), (false, true, 2, 0), (false, false, 2, 0),
    (false, true, 2, 1), (false, false, 2, 1), (true, true, 0, 0), (true, false, 0, 0), (true, true, 0, 1),
    (true, false, 0, 1), (true, true, 1, 0), (true, false, 1, 0), (true, true, 1, 1), (true, false, 1, 1),
    (true, true, 2, 0), (true, false, 2, 0), (true, true, 2, 1), (true, false, 2, 1)]
/-- Something for each of them. -/
theorem spots_all (Φ : Bool × Lane → sProp 𝕄) : bigSep Finset.univ Φ = iprop(Φ (false, true, 0, 0) ∗ Φ (false, false, 0, 0) ∗ Φ (false, true, 0, 1) ∗ Φ (false, false, 0, 1) ∗ Φ (false, true, 1, 0)
    ∗ Φ (false, false, 1, 0) ∗ Φ (false, true, 1, 1) ∗ Φ (false, false, 1, 1) ∗ Φ (false, true, 2, 0) ∗ Φ (false, false, 2, 0)
    ∗ Φ (false, true, 2, 1) ∗ Φ (false, false, 2, 1) ∗ Φ (true, true, 0, 0) ∗ Φ (true, false, 0, 0) ∗ Φ (true, true, 0, 1)
    ∗ Φ (true, false, 0, 1) ∗ Φ (true, true, 1, 0) ∗ Φ (true, false, 1, 0) ∗ Φ (true, true, 1, 1) ∗ Φ (true, false, 1, 1)
    ∗ Φ (true, true, 2, 0) ∗ Φ (true, false, 2, 0) ∗ Φ (true, true, 2, 1) ∗ Φ (true, false, 2, 1)) :=
  bigSep_univ_eq_bigSepL spots (by decide) (by decide) Φ

/-- A tile from its halves. -/
theorem tile_join (w : Bool) (h : Fin 4) (s : Fin 2) (c : Dev nD) (f : Vec F S4x2x256x512 .bf16) :
    iprop(tilePts w h s c fullShare.left f ∗ tilePts w h s c fullShare.right f) ⊢ tilePts w h s c fullShare f := (tilePts_halves w h s c f).2

/-- A buffer from all its tiles. -/
theorem buf_close (w : Bool) (c : Dev nD) :
    iprop((tilePts w 0 0 c fullShare.left (ring m w c) ∗ tilePts w 0 0 c fullShare.right (ring m w c))
      ∗ (tilePts w 0 1 c fullShare.left (ring m w c) ∗ tilePts w 0 1 c fullShare.right (ring m w c))
      ∗ (tilePts w 1 0 c fullShare.left (ring m w c) ∗ tilePts w 1 0 c fullShare.right (ring m w c))
      ∗ (tilePts w 1 1 c fullShare.left (ring m w c) ∗ tilePts w 1 1 c fullShare.right (ring m w c))
      ∗ (tilePts w 2 0 c fullShare.left (ring m w c) ∗ tilePts w 2 0 c fullShare.right (ring m w c))
      ∗ (tilePts w 2 1 c fullShare.left (ring m w c) ∗ tilePts w 2 1 c fullShare.right (ring m w c))
      ∗ (tilePts w 3 0 c fullShare.left (ring m w c) ∗ tilePts w 3 0 c fullShare.right (ring m w c))
      ∗ (tilePts w 3 1 c fullShare.left (ring m w c) ∗ tilePts w 3 1 c fullShare.right (ring m w c))) ⊢ bufPts w c (ring m w c) := by
  refine BIBase.Entails.trans ?_ (bufPts_eq w c (ring m w c)).2
  rw [tiles_all]
  iintro ⟨H00, H01, H10, H11, H20, H21, H30, H31⟩
  ihave H00 := (tile_join w 0 0 c (ring m w c)) $$ H00
  ihave H01 := (tile_join w 0 1 c (ring m w c)) $$ H01
  ihave H10 := (tile_join w 1 0 c (ring m w c)) $$ H10
  ihave H11 := (tile_join w 1 1 c (ring m w c)) $$ H11
  ihave H20 := (tile_join w 2 0 c (ring m w c)) $$ H20
  ihave H21 := (tile_join w 2 1 c (ring m w c)) $$ H21
  ihave H30 := (tile_join w 3 0 c (ring m w c)) $$ H30
  ihave H31 := (tile_join w 3 1 c (ring m w c)) $$ H31
  isplitl [H00 H01]
  · iapply (rowPts_eq w c (ring m w c)).2
    isplitl [H00]; · iexact H00
    iexact H01
  isplitl [H10]; · iexact H10
  isplitl [H11]; · iexact H11
  isplitl [H20]; · iexact H20
  isplitl [H21]; · iexact H21
  isplitl [H30]; · iexact H30
  iexact H31

/-- The result buffer holding `f`. -/
def pO (c : Dev nD) (f : Vec F S1024x512 .f32) : sProp 𝕄 := ((c : Thread nD τ).loc cc0_stg5_0) ↦{fullShare} f

/-- What the body starts from. -/
def bodyPre (c : Dev nD) : sProp 𝕄 :=
  iprop(dutyTok EX (barCell (tgt false c)) 0 true ∗ dutyTok EX (barCell (tgt true c)) 0 false ∗ cred (tallyAt (barCell c) () 2)
    ∗ atPos EX (barCell c) 0 ∅ 0 ∗ (∃ f, bufPts true c f) ∗ (∃ f, bufPts false c f) ∗ pE m c ∗ (∃ W, owes (c : Thread nD τ) (O₀ c) W)
    ∗ (bigSep Finset.univ fun x : Lane => ready c x) ∗ (bigSep Finset.univ fun x : Lane => awaited c x)
    ∗ pX m c ∗ pR m c ∗ pI m c ∗ pS m c ∗ (∃ f, pO c f))

/-- What it leaves. -/
def bodyPost (c : Dev nD) : sProp 𝕄 :=
  iprop((∃ f, bufPts true c f) ∗ (∃ f, bufPts false c f) ∗ (bigSep Finset.univ fun x : Bool × Lane => semVal (cell c (some x)) 0)
    ∗ semVal (barCell c) 0 ∗ pE m c ∗ pX m c ∗ pR m c ∗ pI m c ∗ pS m c ∗ pO c (outAt m c) ∗ (∃ W, owes (c : Thread nD τ) 0 W))

/-- The result is stored over the whole of its buffer. -/
abbrev outR : Rect S1024x512 := Rect.unit (s := S1024x512) ![0, 0] S1024x512.size inb_S1024x512_S1024x512_0_0
theorem store_out (c : Dev nD) (f : Vec F S1024x512 .f32) :
    (((Memref.whole cc0_stg5_0 : Memref sig .tc .vmem S1024x512 .f32).access outR).loc (c : Thread nD τ) ↦[Finset.univ]{fullShare}
        (((Memref.whole cc0_stg5_0 : Memref sig .tc .vmem S1024x512 .f32).access outR).write (Elt F) f (outAt m c) Finset.univ) : sProp 𝕄)
      = (((c : Thread nD τ).loc cc0_stg5_0) ↦{fullShare} outAt m c) := by
  rw [show ((Memref.whole cc0_stg5_0 : Memref sig .tc .vmem S1024x512 .f32).access outR).write (Elt F) f (outAt m c) Finset.univ = outAt m c
    from Memref.write_access_unit_zero_univ (Elt F) cc0_stg5_0 zero2 _ f (outAt m c)]

set_option maxHeartbeats 4000000 in
/-- The body, from the barrier to the store of the result. -/
theorem run_body (c : Dev nD) (Q : PUnit → sProp 𝕄) :
    iprop(book m K ∗ bodyPre m c) ⊢ iprop((bodyPost m c -∗ Q ⟨⟩) -∗ runs c ((onBufs (cc0_body (F := F)) :)) Q) := by
  unfold onBufs runs bodyPre
  rw [cc0_body_eq_skeleton]; unfold cc0_body_skel
  rw [wp_bind, k0_part22_eq_skeleton]; unfold k0_part22_skel
  iintro ⟨#HB, HtL, HtR, Hc, Hat, Hcw, Hccw, HE, HO, HD, HA, HXin, HRin, HIin, HSin, ⟨%f5, HOut⟩⟩ Hk
  ihave HD := (Entails.of_eq (lanes_all (fun x => ready c x))) $$ HD
  icases HD with ⟨HD100, HD000, HD101, HD001, HD110, HD010, HD111, HD011, HD120, HD020, HD121, HD021⟩
  ihave HA := (Entails.of_eq (lanes_all (fun x => awaited c x))) $$ HA
  icases HA with ⟨HA100, HA000, HA101, HA001, HA110, HA010, HA111, HA011, HA120, HA020, HA121, HA021⟩
  irw [wp_bind]
  iapply (run_part1 m K c _) $$ [HtL HtR Hc Hat Hcw Hccw HE HO]
  · isplitr; · iexact HB
    isplitl [HtL]; · iexact HtL
    isplitl [HtR]; · iexact HtR
    isplitl [Hc]; · iexact Hc
    isplitl [Hat]; · iexact Hat
    isplitl [Hcw]; · iexact Hcw
    isplitl [Hccw]; · iexact Hccw
    isplitl [HE]; · iexact HE
    iexact HO
  iintro ⟨HT1, HT0, HzB, HE, HL100, HR100, HL101, HR101, HL000, HR000, HL001, HR001, HO⟩
  ihave HT1 := (room_all true (tgt true c)) $$ HT1
  icases HT1 with ⟨HT100, HT101, HT110, HT111, HT120, HT121⟩
  ihave HT0 := (room_all false (tgt false c)) $$ HT0
  icases HT0 with ⟨HT000, HT001, HT010, HT011, HT020, HT021⟩
  try dsimp only
  irw [wp_bind]
  iapply (run_part2 m K c _ _ _) $$ [HD100 HT100 HR100 HD000 HT000 HR000 HO]
  · isplitr; · iexact HB
    isplitl [HD100]; · iexact HD100
    isplitl [HT100]; · iexact HT100
    isplitl [HR100]; · iexact HR100
    isplitl [HD000]; · iexact HD000
    isplitl [HT000]; · iexact HT000
    isplitl [HR000]; · iexact HR000
    iexact HO
  iintro ⟨HF100, HF000, HO⟩
  try dsimp only
  irw [wp_bind]
  iapply (run_part3 m K c _ _ _) $$ [HD101 HT101 HR101 HD001 HT001 HR001 HXin HIin HRin HO]
  · isplitr; · iexact HB
    isplitl [HD101]; · iexact HD101
    isplitl [HT101]; · iexact HT101
    isplitl [HR101]; · iexact HR101
    isplitl [HD001]; · iexact HD001
    isplitl [HT001]; · iexact HT001
    isplitl [HR001]; · iexact HR001
    isplitl [HXin]; · iexact HXin
    isplitl [HIin]; · iexact HIin
    isplitl [HRin]; · iexact HRin
    iexact HO
  iintro ⟨HXin, HIin, HRin, HF101, HF001, HO⟩
  try dsimp only
  irw [wp_bind]
  iapply (run_part4 m c _ _ _ _ _) $$ [HL100 HL000]
  · isplitl [HL100]; · iexact HL100
    iexact HL000
  iintro ⟨HL100, HL000⟩
  try dsimp only
  irw [wp_bind]
  iapply (run_part5 m c _ _ _ _ _ _ _ _ _ _ _) $$ [HL101 HL001]
  · isplitl [HL101]; · iexact HL101
    iexact HL001
  iintro ⟨HL101, HL001⟩
  try dsimp only
  irw [wp_bind]
  iapply (run_part6 m K c _ _ _ _ _) $$ [HA100 HA000 HO]
  · isplitr; · iexact HB
    isplitl [HA100]; · iexact HA100
    isplitl [HA000]; · iexact HA000
    iexact HO
  iintro ⟨HL110, HR110, HZ100, HL010, HR010, HZ000, HO⟩
  try dsimp only
  irw [wp_bind]
  iapply (run_part7 m K c _ _ _ _ _ _ _ _) $$ [HD110 HT110 HR110 HD010 HT010 HR010 HL110 HO]
  · isplitr; · iexact HB
    isplitl [HD110]; · iexact HD110
    isplitl [HT110]; · iexact HT110
    isplitl [HR110]; · iexact HR110
    isplitl [HD010]; · iexact HD010
    isplitl [HT010]; · iexact HT010
    isplitl [HR010]; · iexact HR010
    isplitl [HL110]; · iexact HL110
    iexact HO
  iintro ⟨HL110, HF110, HF010, HO⟩
  try dsimp only
  irw [wp_bind]
  iapply (run_part8 m K c _ _ _ _ _ _ _ _) $$ [HL010 HA101 HO]
  · isplitr; · iexact HB
    isplitl [HL010]; · iexact HL010
    isplitl [HA101]; · iexact HA101
    iexact HO
  iintro ⟨HL010, HL111, HR111, HZ101, HO⟩
  try dsimp only
  irw [wp_bind]
  iapply (run_part9 m K c _ _ _ _) $$ [HA001 HD111 HT111 HR111 HD011 HT011 HO]
  · isplitr; · iexact HB
    isplitl [HA001]; · iexact HA001
    isplitl [HD111]; · iexact HD111
    isplitl [HT111]; · iexact HT111
    isplitl [HR111]; · iexact HR111
    isplitl [HD011]; · iexact HD011
    isplitl [HT011]; · iexact HT011
    iexact HO
  iintro ⟨HL011, HZ001, HF111, HF011, HO⟩
  try dsimp only
  irw [wp_bind]
  iapply (run_part10 m c _ _ _ _ _ _ _ _) $$ [HL111 HL011 HSin]
  · isplitl [HL111]; · iexact HL111
    isplitl [HL011]; · iexact HL011
    iexact HSin
  iintro ⟨HL111, HL011, HSin⟩
  try dsimp only
  irw [wp_bind]
  iapply (run_part11 m K c _) $$ [HF100 HF000 HF101 HO]
  · isplitr; · iexact HB
    isplitl [HF100]; · iexact HF100
    isplitl [HF000]; · iexact HF000
    isplitl [HF101]; · iexact HF101
    iexact HO
  iintro ⟨HR100, HY100, HR000, HY000, HR101, HY101, HO⟩
  try dsimp only
  irw [wp_bind]
  iapply (run_part12 m K c _ _ _ _) $$ [HF001 HA110 HO]
  · isplitr; · iexact HB
    isplitl [HF001]; · iexact HF001
    isplitl [HA110]; · iexact HA110
    iexact HO
  iintro ⟨HR001, HY001, HL120, HR120, HZ110, HO⟩
  try dsimp only
  irw [wp_bind]
  iapply (run_part13 m K c _ _ _ _) $$ [HA010 HD120 HT120 HR120 HD020 HT020 HO]
  · isplitr; · iexact HB
    isplitl [HA010]; · iexact HA010
    isplitl [HD120]; · iexact HD120
    isplitl [HT120]; · iexact HT120
    isplitl [HR120]; · iexact HR120
    isplitl [HD020]; · iexact HD020
    isplitl [HT020]; · iexact HT020
    iexact HO
  iintro ⟨HL020, HZ010, HF120, HF020, HO⟩
  try dsimp only
  irw [wp_bind]
  iapply (run_part14 m c _ _ _ _ _ _ _ _) $$ [HL120 HL020]
  · isplitl [HL120]; · iexact HL120
    iexact HL020
  iintro ⟨HL120, HL020⟩
  try dsimp only
  irw [wp_bind]
  iapply (run_part15 m K c _ _ _) $$ [HA111 HA011 HD121 HT121 HO]
  · isplitr; · iexact HB
    isplitl [HA111]; · iexact HA111
    isplitl [HA011]; · iexact HA011
    isplitl [HD121]; · iexact HD121
    isplitl [HT121]; · iexact HT121
    iexact HO
  iintro ⟨HL121, HZ111, HL021, HR021, HZ011, HF121, HO⟩
  try dsimp only
  irw [wp_bind]
  iapply (run_part16 m K c _ _ _ _ _ _ _ _ _) $$ [HD021 HT021 HR021 HL121 HL021 HO]
  · isplitr; · iexact HB
    isplitl [HD021]; · iexact HD021
    isplitl [HT021]; · iexact HT021
    isplitl [HR021]; · iexact HR021
    isplitl [HL121]; · iexact HL121
    isplitl [HL021]; · iexact HL021
    iexact HO
  iintro ⟨HL121, HL021, HF021, HO⟩
  try dsimp only
  irw [wp_bind]
  iapply (run_part17 m K c _) $$ [HF110 HF010 HF111 HO]
  · isplitr; · iexact HB
    isplitl [HF110]; · iexact HF110
    isplitl [HF010]; · iexact HF010
    isplitl [HF111]; · iexact HF111
    iexact HO
  iintro ⟨HR110, HY110, HR010, HY010, HR111, HY111, HO⟩
  try dsimp only
  irw [wp_bind]
  iapply (run_part18 m K c _ _ _) $$ [HF011 HA120 HO]
  · isplitr; · iexact HB
    isplitl [HF011]; · iexact HF011
    isplitl [HA120]; · iexact HA120
    iexact HO
  iintro ⟨HR011, HY011, HL130, HR130, HZ120, HO⟩
  try dsimp only
  irw [wp_bind]
  iapply (run_part19 m K c _ _ _ _ _ _ _ _ _) $$ [HA020 HL130 HO]
  · isplitr; · iexact HB
    isplitl [HA020]; · iexact HA020
    isplitl [HL130]; · iexact HL130
    iexact HO
  iintro ⟨HL130, HL030, HR030, HZ020, HO⟩
  try dsimp only
  irw [wp_bind]
  iapply (run_part20 m K c _ _ _ _ _ _) $$ [HA121 HA021 HO]
  · isplitr; · iexact HB
    isplitl [HA121]; · iexact HA121
    isplitl [HA021]; · iexact HA021
    iexact HO
  iintro ⟨HL131, HR131, HZ121, HL031, HR031, HZ021, HO⟩
  try dsimp only
  irw [wp_bind]
  iapply (run_part21 m K c _ _ _ _ _ _ _ _) $$ [HL031 HF120 HO]
  · isplitr; · iexact HB
    isplitl [HL031]; · iexact HL031
    isplitl [HF120]; · iexact HF120
    iexact HO
  iintro ⟨HL031, HR120, HY120, HO⟩
  try dsimp only
  simp only [Prog.lift, Prog.bind_op, Prog.bind_ret, Prog.pure_eq_ret]
  iapply (wp_drain m K (false, 2, 0) c (todo 12) (N_eq false 2 0) rfl) $$ [HF020 HO]
  · isplitr; · iexact HB
    isplitl [HF020]; · iexact HF020
    iexact HO
  iintro ⟨HR020, HY020, HO⟩
  iapply (wp_drain m K (true, 2, 1) c (todo 12) (N_eq true 2 1) rfl) $$ [HF121 HO]
  · isplitr; · iexact HB
    isplitl [HF121]; · iexact HF121
    iexact HO
  iintro ⟨HR121, HY121, HO⟩
  rw [wp_ret]; imodintro
  try dsimp only
  iapply (wp_drain m K (false, 2, 1) c (todo 12) (N_eq false 2 1) rfl) $$ [HF021 HO]
  · isplitr; · iexact HB
    isplitl [HF021]; · iexact HF021
    iexact HO
  iintro ⟨HR021, HY021, HO⟩
  unfold pO
  iapply (wp_load 𝒱₀ (c : Thread nD τ) none Set.univ (m := Memref.whole cc0_stg5_0) (f := f5) (Finset.subset_univ _)) $$ [HOut]
  · iexact HOut
  iintro HOut
  iapply (wp_store 𝒱₀ (c : Thread nD τ) none Set.univ (m := Memref.whole cc0_stg5_0) (r := outR) (Mk := Finset.univ) (f := f5) (Finset.subset_univ _)) $$ [HOut]
  · iexact HOut
  iintro HOut
  rw [wp_ret]; imodintro
  iapply Hk
  unfold bodyPost pO
  rw [spots_all]
  isplitl [HL100 HR100 HL101 HR101 HL110 HR110 HL111 HR111 HL120 HR120 HL121 HR121 HL130 HR130 HL131 HR131]
  · iexists (ring m true c)
    iapply (buf_close m true c)
    isplitl [HL100 HR100]
    · isplitl [HL100]; · iexact HL100
      iexact HR100
    isplitl [HL101 HR101]
    · isplitl [HL101]; · iexact HL101
      iexact HR101
    isplitl [HL110 HR110]
    · isplitl [HL110]; · iexact HL110
      iexact HR110
    isplitl [HL111 HR111]
    · isplitl [HL111]; · iexact HL111
      iexact HR111
    isplitl [HL120 HR120]
    · isplitl [HL120]; · iexact HL120
      iexact HR120
    isplitl [HL121 HR121]
    · isplitl [HL121]; · iexact HL121
      iexact HR121
    isplitl [HL130 HR130]
    · isplitl [HL130]; · iexact HL130
      iexact HR130
    isplitl [HL131]; · iexact HL131
    iexact HR131
  isplitl [HL000 HR000 HL001 HR001 HL010 HR010 HL011 HR011 HL020 HR020 HL021 HR021 HL030 HR030 HL031 HR031]
  · iexists (ring m false c)
    iapply (buf_close m false c)
    isplitl [HL000 HR000]
    · isplitl [HL000]; · iexact HL000
      iexact HR000
    isplitl [HL001 HR001]
    · isplitl [HL001]; · iexact HL001
      iexact HR001
    isplitl [HL010 HR010]
    · isplitl [HL010]; · iexact HL010
      iexact HR010
    isplitl [HL011 HR011]
    · isplitl [HL011]; · iexact HL011
      iexact HR011
    isplitl [HL020 HR020]
    · isplitl [HL020]; · iexact HL020
      iexact HR020
    isplitl [HL021 HR021]
    · isplitl [HL021]; · iexact HL021
      iexact HR021
    isplitl [HL030 HR030]
    · isplitl [HL030]; · iexact HL030
      iexact HR030
    isplitl [HL031]; · iexact HL031
    iexact HR031
  isplitl [HY100 HY000 HY101 HY001 HY110 HY010 HY111 HY011 HY120 HY020 HY121 HY021 HZ100 HZ000 HZ101 HZ001 HZ110 HZ010 HZ111 HZ011 HZ120 HZ020 HZ121 HZ021]
  · isplitl [HY100]; · iexact HY100
    isplitl [HY000]; · iexact HY000
    isplitl [HY101]; · iexact HY101
    isplitl [HY001]; · iexact HY001
    isplitl [HY110]; · iexact HY110
    isplitl [HY010]; · iexact HY010
    isplitl [HY111]; · iexact HY111
    isplitl [HY011]; · iexact HY011
    isplitl [HY120]; · iexact HY120
    isplitl [HY020]; · iexact HY020
    isplitl [HY121]; · iexact HY121
    isplitl [HY021]; · iexact HY021
    isplitl [HZ100]; · iexact HZ100
    isplitl [HZ000]; · iexact HZ000
    isplitl [HZ101]; · iexact HZ101
    isplitl [HZ001]; · iexact HZ001
    isplitl [HZ110]; · iexact HZ110
    isplitl [HZ010]; · iexact HZ010
    isplitl [HZ111]; · iexact HZ111
    isplitl [HZ011]; · iexact HZ011
    isplitl [HZ120]; · iexact HZ120
    isplitl [HZ020]; · iexact HZ020
    isplitl [HZ121]; · iexact HZ121
    iexact HZ021
  isplitl [HzB]; · iexact HzB
  isplitl [HE]; · iexact HE
  isplitl [HXin]; · iexact HXin
  isplitl [HRin]; · iexact HRin
  isplitl [HIin]; · iexact HIin
  isplitl [HSin]; · iexact HSin
  isplitl [HOut]
  · iapply (Entails.of_eq (store_out m c f5)); iexact HOut
  unfold going
  icases HO with ⟨%W, HO⟩
  iexists W; iexact HO

end Cert.Moe

end
-- ==== Proof.Deal.lean ====
/-
  The start of the exchange: its ghost state is made, every cell's record opened, and every device dealt what the body
  starts from — its places at its own cells, the duties it is to pay at its own and at its neighbours' cells, and the
  credit for what its neighbours owe it.
-/
module

public import proofs.«01_k».proof.Proof.Whole

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Conjunctions over the spots -/

/-- Over all spots: the barrier, and the copies' semaphores. -/
theorem over_spots (Φ : Spot → sProp 𝕄) :
    bigSep Finset.univ Φ = iprop(Φ none ∗ bigSep Finset.univ fun k : Bool × Lane => Φ (some k)) := by
  have e : (Finset.univ : Finset Spot) = insert none ((Finset.univ : Finset (Bool × Lane)).map Function.Embedding.some) := by
    ext k; cases k <;> simp
  rw [e, BI.bigSep_insert (by simp), bigSep_map]
  rfl

/-- Over the two sides of a Boolean, -/
theorem over_bool (Φ : Bool → sProp 𝕄) : bigSep Finset.univ Φ = iprop(Φ false ∗ Φ true) :=
  bigSep_univ_eq_bigSepL [false, true] (by decide) (by decide) Φ

/-- and over the copies' semaphores: the read-outs', and the arrivals'. -/
theorem over_ends (Φ : Bool × Lane → sProp 𝕄) :
    bigSep Finset.univ Φ = iprop((bigSep Finset.univ fun x : Lane => Φ (false, x)) ∗ bigSep Finset.univ fun x : Lane => Φ (true, x)) := by
  rw [bigSep_univ_prod, over_bool]

/-! ## Who pays where -/

/-- The device whose cell device `c` pays at, for the duty `d` of a spot. -/
def payee (c : Dev nD) : Spot × Bool → Dev nD
  | (none, d) => tgt (!d) c
  | (some (true, x), _) => tgt x.1 c
  | (some (false, _), _) => c
/-- The device that pays for it at `c`. -/
def payer (c : Dev nD) : Spot × Bool → Dev nD
  | (none, d) => tgt d c
  | (some (true, x), _) => tgt (!x.1) c
  | (some (false, _), _) => c

/-- All the duties of all devices, sorted by the payer instead of by the cell. -/
def deal : Dev nD × (Spot × Bool) ≃ Dev nD × (Spot × Bool) where
  toFun y := (payee y.1 y.2, y.2)
  invFun y := (payer y.1 y.2, y.2)
  left_inv := by
    rintro ⟨c, _ | ⟨_ | _, x⟩, d⟩
    · exact congrArg (·, _) (tgt_tgt d c)
    · rfl
    · exact congrArg (·, _) (tgt_tgt' x.1 c)
  right_inv := by
    rintro ⟨c, _ | ⟨_ | _, x⟩, d⟩
    · exact congrArg (·, _) (tgt_tgt' d c)
    · rfl
    · exact congrArg (·, _) (tgt_tgt x.1 c)

/-! ## The initial ghost state -/

/-- Every cell of the exchange, -/
def cellsX : Finset (GSem nD τ sig) := Finset.univ.map ⟨fun ck : Dev nD × Spot => cell ck.1 ck.2, cell_injective⟩

theorem tok_injective : Function.Injective fun y : Dev nD × (Spot × Bool) => ((cell y.1 y.2.1, 0, y.2.2) : GSem nD τ sig × ℕ × Bool) := by
  rintro ⟨c, k, d⟩ ⟨c', k', d'⟩ h
  have h1 := cell_injective (a₁ := (c, k)) (a₂ := (c', k')) (congrArg (fun z : GSem nD τ sig × ℕ × Bool => z.1) h)
  have h2 : d = d' := congrArg (fun z : GSem nD τ sig × ℕ × Bool => z.2.2) h
  rw [(Prod.mk.inj h1).1, (Prod.mk.inj h1).2, h2]
/-- and a token for both duties of each. -/
def toksX : Finset (GSem nD τ sig × ℕ × Bool) := Finset.univ.map ⟨_, tok_injective⟩

/-- A device's places at its cells. -/
def places (c : Dev nD) : sProp 𝕄 := bigSep Finset.univ fun k : Spot => atPos EX (cell c k) 0 ∅ 0
/-- The tokens of the duties at its cells. -/
def minted (c : Dev nD) : sProp 𝕄 := bigSep Finset.univ fun y : Spot × Bool => dutyTok EX (cell c y.1) 0 y.2
/-- The tokens of the duties it pays. -/
def tickets (c : Dev nD) : sProp 𝕄 := bigSep Finset.univ fun y : Spot × Bool => dutyTok EX (cell (payee c y) y.1) 0 y.2

/-- What the ghost state gives each device at first, -/
def G (c : Dev nD) : sProp 𝕄 :=
  iprop((bigSep Finset.univ fun k : Spot => roundState EX (plan (F := F) m) (cell c k) 0) ∗ places c
    ∗ (bigSep Finset.univ fun k : Spot => reached EX (cell c k) 0) ∗ minted c)

/-- the pages of the record, -/
def pages (K : Dev nD × Spot → ℕ) : sProp 𝕄 :=
  bigSep Finset.univ fun ck : Dev nD × Spot => iprop(cellInv EX (plan (F := F) m) (K ck) (cell ck.1 ck.2) ∗ reached EX (cell ck.1 ck.2) 0)
instance pages_persistent (K : Dev nD × Spot → ℕ) : BI.Persistent (pages (F := F) m K) := by unfold pages; infer_instance

/-- and what it has once they are written. -/
def G' (c : Dev nD) : sProp 𝕄 := iprop(∃ K, pages (F := F) m K ∗ places c ∗ tickets c)

/-- Something for every cell, device by device. -/
theorem by_device (Φ : GSem nD τ sig → sProp 𝕄) :
    bigSep cellsX Φ = bigSep Finset.univ fun c : Dev nD => bigSep Finset.univ fun k : Spot => Φ (cell c k) := by
  unfold cellsX; rw [bigSep_map, bigSep_univ_prod]; rfl

/-- The tokens, device by device. -/
theorem toks_by_device : bigSep toksX (fun z => (dutyTok EX z.1 z.2.1 z.2.2 : sProp 𝕄)) = bigSep Finset.univ fun c : Dev nD => minted c := by
  unfold toksX minted; rw [bigSep_map, bigSep_univ_prod]; rfl

/-- The ghost state made. -/
theorem made : BI.own (EX (initOf cellsX toksX)) ⊢ (|==> bigSep Finset.univ (G m) : sProp 𝕄) := by
  iintro HX
  imod (Rounds.fund EX (plan m) cellsX toksX) $$ HX with ⟨Hs, Hr, Ha, Ht⟩
  imodintro
  ihave Hs := (Entails.of_eq (by_device fun g => roundState EX (plan m) g 0)) $$ Hs
  ihave Hr := (Entails.of_eq (by_device (F := F) fun g => reached EX g 0)) $$ Hr
  ihave Ha := (Entails.of_eq (by_device (F := F) fun g => atPos EX g 0 ∅ 0)) $$ Ha
  ihave Ht := (Entails.of_eq (toks_by_device (F := F))) $$ Ht
  unfold G places
  simp only [bigSep_sep']
  isplitl [Hs]; · iexact Hs
  isplitl [Ha]; · iexact Ha
  isplitl [Hr]; · iexact Hr
  iexact Ht

/-! ## The record -/

/-- The copies' semaphores, as the kernel's own. -/
def osem (k : Bool × Lane) : SemLoc sig := spotSem (some k)

/-- The one semaphore that outlives the kernel is the barrier's. -/
theorem barrier_only (c : Dev nD) : (unscopedSems0 c : sProp 𝕄) = semVal (barCell c) 0 := by
  unfold unscopedSems0; rw [bigSep_eq_bigSepL_of_eq [SemLoc.reg barS] (by decide) (by decide)]; rfl

/-- All cells of a device stand at zero at first. -/
theorem zeros (c : Dev nD) :
    iprop(Pipeline.ownSems0 (Ix := Unit) (Name := ℕ) (U := UU) (Lvl := ℕ) (Val := Elt F) (τ := τ) osem c ∗ unscopedSems0 c)
      ⊢ (bigSep Finset.univ fun k : Spot => semVal (cell c k) 0 : sProp 𝕄) := by
  rw [over_spots, barrier_only]
  unfold Pipeline.ownSems0
  iintro ⟨H, Hb⟩
  isplitl [Hb]; · iexact Hb
  iexact H

/-- A device's cells opened. -/
theorem opened (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Spot => iprop(∃ κ : ℕ, cellInv EX (plan (F := F) m) κ (cell c k)))
          ∗ places c ∗ (bigSep Finset.univ fun k : Spot => reached EX (cell c k) 0) ∗ minted c) := by
  unfold G
  iintro ⟨Ho, Hu, Hs, Hrest⟩
  ihave Hz := (zeros (F := F) c) $$ [Ho Hu]
  · isplitl [Ho]; · iexact Ho
    iexact Hu
  have step : iprop((bigSep Finset.univ fun k : Spot => semVal (cell c k) 0) ∗ bigSep Finset.univ fun k : Spot => roundState EX (plan (F := F) m) (cell c k) 0)
      ⊢ (|={Set.univ}=> bigSep Finset.univ fun k : Spot => iprop(∃ κ : ℕ, cellInv EX (plan (F := F) m) κ (cell c k)) : sProp 𝕄) := by
    rw [← bigSep_sep']
    exact (bigSep_mono fun k _ => (Rounds.body_intro EX (plan m) (cell c k)).trans inv_alloc).trans (bigSep_fupd _ _)
  imod step $$ [Hz Hs] with HI
  · isplitl [Hz]; · iexact Hz
    iexact Hs
  imodintro
  isplitl [HI]; · iexact HI
  iexact Hrest

/-- The tokens dealt to their payers. -/
theorem dealt : (bigSep Finset.univ fun c : Dev nD => (minted c : sProp 𝕄)) ⊢ bigSep Finset.univ fun c : Dev nD => tickets c := by
  unfold minted tickets
  rw [← bigSep_univ_prod (fun y : Dev nD × (Spot × Bool) => (dutyTok EX (cell y.1 y.2.1) 0 y.2.2 : sProp 𝕄)),
    bigSep_univ_equiv deal, bigSep_univ_prod]
  exact BI.Entails.refl _

/-- What all share goes to each. -/
theorem shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- The record written, and everything dealt. -/
theorem recorded :
    (bigSep Finset.univ fun c : Dev nD => iprop((bigSep Finset.univ fun k : Spot => iprop(∃ κ : ℕ, cellInv EX (plan (F := F) m) κ (cell c k)))
          ∗ places c ∗ (bigSep Finset.univ fun k : Spot => reached EX (cell c k) 0) ∗ minted c) : sProp 𝕄)
      ⊢ bigSep Finset.univ (G' m) := by
  rw [bigSep_sep', bigSep_sep', bigSep_sep', ← bigSep_univ_prod (fun ck : Dev nD × Spot => iprop(∃ κ : ℕ, cellInv EX (plan (F := F) m) κ (cell ck.1 ck.2))),
    ← bigSep_univ_prod (fun ck : Dev nD × Spot => (reached EX (cell ck.1 ck.2) 0 : sProp 𝕄))]
  iintro ⟨HI, Hp, #HR, Ht⟩
  ihave HI := (BI.bigSep_exists_pi Finset.univ (fun (ck : Dev nD × Spot) (κ : ℕ) => (cellInv EX (plan (F := F) m) κ (cell ck.1 ck.2) : sProp 𝕄))) $$ HI
  icases HI with ⟨%K, #HI⟩
  ihave Ht := (dealt (F := F)) $$ Ht
  have give : ∀ c ∈ (Finset.univ : Finset (Dev nD)), iprop(pages (F := F) m K ∗ (places c ∗ tickets c)) ⊢ G' m c := fun c _ => by
    unfold G'
    iintro H
    iexists K; iexact H
  iapply (shared give)
  isplitr
  · unfold pages
    iapply (Entails.of_eq (bigSep_sep' Finset.univ (fun ck : Dev nD × Spot => (cellInv EX (plan (F := F) m) (K ck) (cell ck.1 ck.2) : sProp 𝕄))
      (fun ck => reached EX (cell ck.1 ck.2) 0)).symm)
    isplitl; · iexact HI
    iexact HR
  · iapply (Entails.of_eq (bigSep_sep' Finset.univ (fun c : Dev nD => (places c : sProp 𝕄)) (fun c => tickets c)).symm)
    isplitl [Hp]; · iexact Hp
    iexact Ht

/-- All devices' cells opened on the way. -/
theorem dealt_all :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => opened m c).trans (bigSep_fupd _ _)).trans (BI.fupd_mono (recorded m))

/-! ## The credit -/

/-- Something for one copy more. -/
theorem one_more {x : Lane} {s : Finset Lane} (Φ : Lane → sProp 𝕄) (h : x ∉ s) : bigSep (insert x s) Φ = iprop(Φ x ∗ bigSep s Φ) := BI.bigSep_insert h

/-- The credit for what the neighbours owe a device's arrivals, copy by copy. -/
theorem debt_credits (c : Dev nD) : (l : List Lane) → l.Nodup →
    (Pipeline.launchCred (fun d => debt d l) c : sProp 𝕄) ⊢ bigSep l.toFinset fun x => cred (tallyAt (arrCell c x) () N)
  | [], _ => by
    rw [show (fun d : Dev nD => debt d []) = fun _ => 0 from rfl, Pipeline.launchCred_zero, List.toFinset_nil, BI.bigSep_empty]
    exact BI.Entails.refl _
  | x :: l, h => by
    rw [show (fun d : Dev nD => debt d (x :: l)) = fun d => debt d l + tallyAt (arrCell (tgt x.1 d) x) () N from rfl,
      Pipeline.launchCred_add, List.toFinset_cons, one_more _ (fun hx => (List.nodup_cons.mp h).1 (List.mem_toFinset.mp hx))]
    iintro ⟨Hl, Hx⟩
    isplitl [Hx]
    · iapply (Pipeline.launchCred_tallyAt (spotSem (some (true, x))) (tgt x.1) (tgt (!x.1)) (tgt_tgt x.1) (tgt_tgt' x.1) () N c); iexact Hx
    · iapply (debt_credits c l (List.nodup_cons.mp h).2); iexact Hl

/-- The credit a device starts with: two units at the barrier, and every arrival's. -/
theorem credits (c : Dev nD) : (Pipeline.launchCred O₀ c : sProp 𝕄)
    ⊢ iprop(cred (tallyAt (barCell c) () 2) ∗ bigSep Finset.univ fun x : Lane => cred (tallyAt (arrCell c x) () N)) := by
  rw [show (O₀ : Dev nD → CellTallies nD τ sig Unit)
      = fun d => (debt d order + tallyAt (barCell (tgt true d)) () 1) + tallyAt (barCell (tgt false d)) () 1 from rfl,
    Pipeline.launchCred_add, Pipeline.launchCred_add, show (Finset.univ : Finset Lane) = order.toFinset by decide,
    show (tallyAt (barCell c) () 2 : CellTallies nD τ sig Unit) = tallyAt (barCell c) () 1 + tallyAt (barCell c) () 1 from (tallyAt_add _ _ 1 1).symm]
  iintro ⟨⟨Hd, H1⟩, H0⟩
  ihave H1 := (Pipeline.launchCred_tallyAt (spotSem none) (tgt true) (tgt false) (tgt_tgt true) (tgt_tgt' true) () 1 c) $$ H1
  ihave H0 := (Pipeline.launchCred_tallyAt (spotSem none) (tgt false) (tgt true) (tgt_tgt false) (tgt_tgt' false) () 1 c) $$ H0
  isplitl [H0 H1]
  · iapply (cred_add _ _).2
    isplitl [H0]; · iexact H0
    iexact H1
  · iapply (debt_credits c order (by decide)); iexact Hd

/-! ## What the body starts from -/

/-- A device's share of the exchange at its start. -/
def start (c : Dev nD) : sProp 𝕄 :=
  iprop(∃ K, book (F := F) m K ∗ places c ∗ tickets c ∗ cred (tallyAt (barCell c) () 2)
    ∗ bigSep Finset.univ fun x : Lane => cred (tallyAt (arrCell c x) () N))

/-- Places, tokens and credit, sorted as the body uses them. -/
theorem sorted (c : Dev nD) :
    iprop(places (F := F) c ∗ tickets c ∗ bigSep Finset.univ fun x : Lane => cred (tallyAt (arrCell c x) () N))
      ⊢ iprop(dutyTok EX (barCell (tgt false c)) 0 true ∗ dutyTok EX (barCell (tgt true c)) 0 false ∗ atPos EX (barCell c) 0 ∅ 0
        ∗ (bigSep Finset.univ fun x : Lane => ready (F := F) c x) ∗ (bigSep Finset.univ fun x : Lane => awaited (F := F) c x)) := by
  unfold places tickets ready awaited
  rw [bigSep_univ_prod, over_spots, over_spots, over_ends, over_ends, over_bool]
  simp only [over_bool, bigSep_sep', payee]
  iintro ⟨⟨HpB, HpS, HpA⟩, ⟨⟨HtF, HtT⟩, ⟨HsF, -⟩, ⟨HaF, -⟩⟩, Hc⟩
  isplitl [HtT]; · iexact HtT
  isplitl [HtF]; · iexact HtF
  isplitl [HpB]; · iexact HpB
  isplitl [HsF HaF HpS]
  · isplitl [HsF]; · iexact HsF
    isplitl [HaF]; · iexact HaF
    iexact HpS
  · isplitl [Hc]; · iexact Hc
    iexact HpA

end Cert.Moe

end
-- ==== Proof.Run.lean ====
/-
  The launch: the pipeline's one point is the body, every device runs it, and at the end each device's result array holds
  what the body stored, its arguments what they held, and every semaphore counter is at zero.
-/
module

public import proofs.«01_k».proof.Proof.Deal
public import Idealize.ShloMosaic.Lib.Quiescent
public import Idealize.ShloMosaic.Lib.Pipeline.CollectiveSegs

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- Before the body: the device's share of the exchange, its two buffers at whatever they hold. -/
def before₀ (c : Dev nD) : sProp 𝕄 := iprop(start m c ∗ (∃ f, bufPts true c f) ∗ (∃ f, bufPts false c f))
/-- After it: the buffers again, and every counter at zero. -/
def after₀ (c : Dev nD) : sProp 𝕄 :=
  iprop((∃ f, bufPts (F := F) true c f) ∗ (∃ f, bufPts (F := F) false c f) ∗ (bigSep Finset.univ fun x : Bool × Lane => semVal (cell c (some x)) 0)
    ∗ semVal (barCell c) 0)

/-- What the pipeline is told: the blocks it brings in stay as they are, the block it writes back is the body's result. -/
def dats (_ : Fin 1) (c : Dev nD) : Dat τ (Elt F) Unit ℕ UU ℕ cfg0 c where
  A w := m ((cfg0.win w).arr.view.loc (c : Thread nD τ))
  after w _ := match w with
    | ⟨0, _⟩ => stX m c
    | ⟨1, _⟩ => stR m c
    | ⟨2, _⟩ => stI m c
    | ⟨3, _⟩ => stE m c
    | ⟨4, _⟩ => stS m c
    | ⟨5, _⟩ => outAt m c
  Φ t := match t with
    | ⟨0, _⟩ => before₀ m c
    | ⟨_ + 1, _⟩ => after₀ c
  q _ := fullShare
  owed t := match t with
    | ⟨0, _⟩ => O₀ c
    | ⟨_ + 1, _⟩ => 0

/-- A staged buffer at given contents. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

/-- What the pipeline hands the body, -/
def handed (c : Dev nD) : sProp 𝕄 :=
  iprop(before₀ m c ∗ (dats m 0 c).owesAt () t0_0.castSucc
    ∗ (∃ d, staged c cc0_stg0_0 ((dats m 0 c).before (0 : Fin 6) t0_0 d)) ∗ (∃ d, staged c cc0_stg1_0 ((dats m 0 c).before (1 : Fin 6) t0_0 d))
    ∗ (∃ d, staged c cc0_stg2_0 ((dats m 0 c).before (2 : Fin 6) t0_0 d)) ∗ (∃ d, staged c cc0_stg3_0 ((dats m 0 c).before (3 : Fin 6) t0_0 d))
    ∗ (∃ d, staged c cc0_stg4_0 ((dats m 0 c).before (4 : Fin 6) t0_0 d)) ∗ (∃ d, staged c cc0_stg5_0 ((dats m 0 c).before (5 : Fin 6) t0_0 d)))
/-- and what it takes back. -/
def returned (c : Dev nD) : sProp 𝕄 :=
  iprop(after₀ c ∗ (dats m 0 c).owesAt () t0_0.succ
    ∗ staged c cc0_stg0_0 (stX m c) ∗ staged c cc0_stg1_0 (stR m c) ∗ staged c cc0_stg2_0 (stI m c) ∗ staged c cc0_stg3_0 (stE m c)
    ∗ staged c cc0_stg4_0 (stS m c) ∗ staged c cc0_stg5_0 (outAt m c))

/-- The body, between the two. -/
theorem body_runs (c : Dev nD) : handed m c ⊢ runs c ((onBufs (cc0_body (F := F)) :)) (fun _ => returned m c) := by
  unfold handed before₀ start
  iintro ⟨⟨⟨%K, #HB, Hp, Ht, Hc2, Hcs⟩, Hcw, Hccw⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = stX m c := by rw [h0]; unfold Dat.before; rw [if_pos (fetch0_0 t0_0)]; rfl
  have e1 : g1 = stR m c := by rw [h1]; unfold Dat.before; rw [if_pos (fetch0_1 t0_0)]; rfl
  have e2 : g2 = stI m c := by rw [h2]; unfold Dat.before; rw [if_pos (fetch0_2 t0_0)]; rfl
  have e3 : g3 = stE m c := by rw [h3]; unfold Dat.before; rw [if_pos (fetch0_3 t0_0)]; rfl
  have e4 : g4 = stS m c := by rw [h4]; unfold Dat.before; rw [if_pos (fetch0_4 t0_0)]; rfl
  clear h0 h1 h2 h3 h4
  subst e0 e1 e2 e3 e4
  ihave Hs := (sorted (F := F) c) $$ [Hp Ht Hcs]
  · isplitl [Hp]; · iexact Hp
    isplitl [Ht]; · iexact Ht
    iexact Hcs
  icases Hs with ⟨Ht1, Ht0, Hat, HD, HA⟩
  unfold Dat.owesAt Pipeline.owesWithin
  icases Ho with ⟨%W, %hW, HO⟩
  iapply (run_body m K c (fun _ => returned m c)) $$ [Ht1 Ht0 Hc2 Hat Hcw Hccw H3 HO HD HA H0 H1 H2 H4 H5]
  · isplitr; · iexact HB
    unfold bodyPre pE pX pR pI pS pO
    isplitl [Ht1]; · iexact Ht1
    isplitl [Ht0]; · iexact Ht0
    isplitl [Hc2]; · iexact Hc2
    isplitl [Hat]; · iexact Hat
    isplitl [Hcw]; · iexact Hcw
    isplitl [Hccw]; · iexact Hccw
    isplitl [H3]; · iexact H3
    isplitl [HO]; · iexists W; iexact HO
    isplitl [HD]; · iexact HD
    isplitl [HA]; · iexact HA
    isplitl [H0]; · iexact H0
    isplitl [H1]; · iexact H1
    isplitl [H2]; · iexact H2
    isplitl [H4]; · iexact H4
    iexists g5; iexact H5
  unfold bodyPost returned after₀ Dat.owesAt Pipeline.owesWithin pE pX pR pI pS pO
  iintro ⟨Hcw, Hccw, Hz, HzB, H3, H0, H1, H2, H4, H5, ⟨%W', HO⟩⟩
  isplitl [Hcw Hccw Hz HzB]
  · isplitl [Hcw]; · iexact Hcw
    isplitl [Hccw]; · iexact Hccw
    isplitl [Hz]; · iexact Hz
    iexact HzB
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
/-- The pipeline's obligation at its one point. -/
theorem body_ok (c : Dev nD) : BodyObligation (dats (F := F) m 0 c) (defs₀ (F := F)) 𝒱₀ () Set.univ := fun t => by
  rw [fin_N0 t]
  rw [bigSep_W0, bigSep_W0]
  simp only [owns_staged]
  exact body_runs m c

/-! ## The launch -/

theorem osem_facts : Pipeline.OwnSemFacts cfg0.spec osem := by decide

theorem full_share (c : Dev nD) (w : Fin cfg0.W) : (dats m 0 c).share w = fullShare := by unfold Dat.share; split <;> rfl

/-- At the start a device owes to barriers and arrivals only. -/
theorem owed_high (c : Dev nD) {g : GSem nD τ sig} {u : Unit} (h : 0 < O₀ c g u) : u ∈ L g ∧ 0 < lv g u := by
  unfold O₀ at h
  rw [Pi.add_apply, Finsupp.add_apply, Pi.add_apply, Finsupp.add_apply, tallyAt_apply, tallyAt_apply] at h
  by_cases h1 : g = barCell (tgt false c) ∧ u = ()
  · rw [h1.1]; exact And.intro (by rw [L_tc]; exact Finset.mem_singleton_self _) Nat.one_pos
  by_cases h2 : g = barCell (tgt true c) ∧ u = ()
  · rw [h2.1]; exact And.intro (by rw [L_tc]; exact Finset.mem_singleton_self _) Nat.one_pos
  rw [if_neg h1, if_neg h2] at h
  obtain ⟨x, -, rfl⟩ := debt_pos (c := c) (l := order) (g := g) (u := u) h
  refine And.intro (by rw [L_tc]; exact Finset.mem_singleton_self _) ?_
  show 0 < height (spotSem (some (true, x)))
  rw [height_arr]; omega

/-- So it may wait for the pipeline's own transfers. -/
theorem mayWait_own (c : Dev nD) (q : DmaSem sig) (hq : height (.dma q) = 0) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (owed_high c hg).1) (fun p hp => by rw [Finset.mem_singleton.mp hp]; exact hq.le) (fun g u hg => (owed_high c hg).2)
  · rw [MayWait_zero]; iintro -; iempintro

theorem waits_ok (c : Dev nD) : (levAts L lv : sProp 𝕄) ⊢ Pipeline.cellsWaits cfgs (dats m) () 0 c :=
  Pipeline.cellsWaits_intro cfgs (dats m) () 0 c fun w s t =>
    mayWait_own c _ (by fin_cases w <;> fin_cases s <;> decide) _ (by
      rcases t with ⟨_ | _, ht⟩
      · exact Or.inl rfl
      · exact Or.inr rfl)

/-- The launch gives each device its share of the exchange. -/
theorem start_ok (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' pages
  iintro ⟨-, #HL, Hc, -, ⟨%K, #HP, Hp, Ht⟩⟩
  ihave Hc := (credits (F := F) c) $$ Hc
  icases Hc with ⟨Hb, Hx⟩
  imodintro
  unfold start book
  isplitl
  · iexists K
    isplitr
    · isplitr; · iexact HP
      iexact HL
    isplitl [Hp]; · iexact Hp
    isplitl [Ht]; · iexact Ht
    isplitl [Hb]; · iexact Hb
    iexact Hx
  · iempintro

/-- The buffers join it; -/
theorem enter_ok (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scopedRest0_eq]
  unfold before₀ bufPts
  iintro ⟨Hs, -, Hr, Hl⟩
  isplitl [Hs]; · iexact Hs
  isplitl [Hr]; · iexact Hr
  iexact Hl

/-- at the end they are given back with all counters at zero. -/
theorem leave_ok (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after₀ c from rfl, scopedRest0_eq, barrier_only]
  unfold after₀ bufPts Pipeline.ownSems0
  iintro ⟨Hr, Hl, Hz, HzB⟩
  isplitl [HzB]; · iexact HzB
  isplitl [Hz]; · iexact Hz
  isplitl [Hr]; · iexact Hr
  iexact Hl

/-- The ghost state of the whole launch: the pipeline's and the exchange's. -/
def u₀ : UU := (initOf (Pipeline.cells cfgs cellOf_inj) (Pipeline.launchToks cfgs cellOf_inj), initOf cellsX toksX)

/-- The arrays at the end. -/
def final (c : Dev nD) (w : Fin cfg0.W) : Buf (Elt F) ((cfg0.win w).arr.view.loc (c : Thread nD τ)) := (dats m 0 c).arrAt w cfg0.N

set_option maxRecDepth 8000 in
/-- For any float values and any memory: every fair execution of the four devices' program ends without a fault, each
    device's arrays as the pipeline's data say and every semaphore counter at zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_ok m) (hne := fun w => by fin_cases w <;> exact Nat.succ_pos _) (harr := arr_whole0) (hstage := stage_whole0) (hshare := full_share m)
    (hdistinct := winFacts0.arr_inj)
    (O₀ := O₀) (howed₀ := fun _ => rfl) (howedN := fun _ => rfl)
    (L := L) (lv := lv) (hL := L_of_ne) (hwaits := waits_ok m)
    (G := G m) (G' := G' m) (u₀ := u₀)
    (hu₀ := by
      unfold u₀
      iintro Hu
      ihave H := (ownU_pair _ _) $$ Hu
      icases H with ⟨HP, HX⟩
      imod (made m) $$ HX with HG
      imodintro
      isplitl [HP] <;> iassumption)
    (hglob := dealt_all m)
    (hA := fun _ _ => rfl) (hpf := fun _ k => k.elim0)
    (X := start m) (Y := fun c => unscopedSems0 c) (Z := fun _ => iprop(emp))
    (hX := start_ok m ρ) (hin := enter_ok m) (hout := leave_ok m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- The arguments hold what they held. -/
theorem final_arg (c : Dev nD) (w : Fin 6) (h : (cfg0.win w).isOut = false) :
    final m c w = m ((cfg0.win w).arr.view.loc (c : Thread nD τ)) := (dats (F := F) m 0 c).arrAt_in w h _

/-- The result array holds what the body stored. -/
theorem final_out (c : Dev nD) : final m c (5 : Fin 6) = outAt m c := by
  have hz : (fun a => (win0_5.index (0 : Fin 1)) a * main_v1.ty.shape.size a) = fun _ => 0 := funext fun a => by fin_cases a <;> decide
  have h : (win0_5.blk (0 : Fin 1)).view.read (Elt F) (final m c (5 : Fin 6)) = outAt m c := by
    unfold final
    rw [show cfg0.N = ((0 : Fin 1) : Fin cfg0.N).val + 1 from rfl, (dats m 0 c).arrAt_succ (5 : Fin 6) (0 : Fin 1), show (cfg0.win (5 : Fin 6)).flush (0 : Fin 1) = true from by decide, if_pos rfl]
    exact View.read_write_univ _ _
  rw [← h]
  exact (Memref.read_access_unit_zero (Elt F) main_v1 hz (fun a => by fin_cases a <;> decide) (final m c (5 : Fin 6))).symm

end Cert.Moe

end
-- ==== Proof.Frames.lean ====
/-
  The frames: each of the three programs terminates with its arguments unchanged and every semaphore counter at zero.
  The kernel as printed and the idealized kernel have the same text, so both frames come from the one run, at two kinds of float.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Moe

open Idealize.ShloMosaic Idealize.ShloMosaic.TcCoe Idealize.SL.Sem

/-- Over any float values the kernel leaves its arguments unchanged and its counters at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono
    (fun _ h => ⟨fun c => ⟨(h.1 c (0 : Fin 6)).trans (final_arg m c 0 rfl), (h.1 c (1 : Fin 6)).trans (final_arg m c 1 rfl),
      (h.1 c (2 : Fin 6)).trans (final_arg m c 2 rfl), (h.1 c (3 : Fin 6)).trans (final_arg m c 3 rfl),
      (h.1 c (4 : Fin 6)).trans (final_arg m c 4 rfl)⟩, h.2⟩)
    (run_main (F := F) m ρ)

attribute [local instance] Cert.Kernel.Gen.facts Cert.KernelIdeal.Gen.facts

/-- The two programs' bodies are the same function. -/
theorem bodies_same {F : FTy → Type} [FloatOps F] : @Cert.Kernel.defs₀ F _ _ = @Cert.KernelIdeal.defs₀ F _ _ := by
  delta Cert.Kernel.defs₀ Cert.KernelIdeal.defs₀
  refine congrArg Defs.onTc (funext fun l => funext fun x => ?_)
  match l, x with
  | ⟨0, _⟩, (t, s) => rfl

/-- So are their tables of bodies, regions and pipelines. -/
theorem tables_same {F : FTy → Type} [FloatOps F] : @Cert.Kernel.defs F _ _ = @Cert.KernelIdeal.defs F _ _ :=
  congrArg (Pipeline.defs (Cert.KernelIdeal.pcfgs (F := F))) bodies_same

/-- The kernel as printed terminates, its arguments unchanged and its counters at zero. -/
theorem frame_kernel : Cert.quiescent_Kernel (hKernel := Cert.Kernel.Gen.facts) := fun m ρ _ =>
  Eq.mpr (congrArg (fun d => θ_run d (onTc (τ := Cert.Kernel.τ) (Cert.Kernel.main (F := Bits))) ⟨m, fun _ => 0, ρ⟩ _) tables_same)
    (frame_any (F := Bits) m ρ)

/-- The idealized kernel terminates, its arguments unchanged and its counters at zero. -/
theorem frame_ideal : Cert.quiescent_KernelIdeal (hKernelIdeal := Cert.KernelIdeal.Gen.facts) := fun m ρ _ => frame_any (F := Ideal) m ρ

/-- The reference terminates, its arguments unchanged; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Ref.lean ====
/-
  The reference's result over the extended reals, read at an index: where every token names one of the sixteen experts, it is
  the shared product plus the token's share of that expert's product.
-/
module

public import proofs.«01_k».proof.Proof.Gen.ReferenceIdeal
public import proofs.«01_k».proof.Proof.Gen.ReferenceIdeal.Run
public import Idealize.ShloMosaic.Lib.Pointwise
public import Idealize.ShloMosaic.Lib.ReduceAll

@[expose] public section

noncomputable section

namespace Cert.Moe.Ref

open Cert.ReferenceIdeal Cert.ReferenceIdeal.Gen
open Idealize.ShloMosaic Idealize.ShloMosaic.TcCoe

/-! ## The steps of the reference -/

section Defs

variable (X : FVec Ideal S4096x256 .f32) (R : FVec Ideal S256x16 .f32) (I : IVec S4096x1 32)
  (E : FVec Ideal S16x256x512 .f32) (S : FVec Ideal S256x512 .f32) (J : IVec S4096x1x1 32)

/-- The tokens' scores, -/
def scores : FVec Ideal S4096x16 .f32 := Host.dotGeneral dot_S4096x256_S256x16_S4096x16_1_0_0_1_n_n none X R
/-- their exponentials, each less the token's largest score, -/
def exps : FVec Ideal S4096x16 .f32 :=
  Host.exp (subf (scores X R) (broadcastInDim S4096x16 ![0, 1] bcast_S4096x1_S4096x16_0_1 (broadcastInDim S4096x1 ![0] bcast_S4096_S4096x1_0
    (Host.reduce FloatOps.maximumf (scores X R) (constant S_ .f32 0xFF800000#32) reducesTo_S4096x16_S4096_d1 h_S_))))
/-- and the shares these give. -/
def probs : FVec Ideal S4096x16 .f32 :=
  Host.divf (exps X R) (broadcastInDim S4096x16 ![0, 1] bcast_S4096x1_S4096x16_0_1 (broadcastInDim S4096x1 ![0] bcast_S4096_S4096x1_0
    (Host.reduceAdd (exps X R) (constant S_ .f32 0x00000000#32) reducesTo_S4096x16_S4096_d1 h_S_)))
/-- The products of every token with every expert. -/
def prods : FVec Ideal S4096x16x512 .f32 := Host.dotGeneral dot_S4096x256_S16x256x512_S4096x16x512_1_1_0_02_n_n none X E

/-- The indices as each of the two lookups takes them, a negative one counted from the end. -/
def idx1 : IVec S4096x1x1 32 :=
  shapeCast _ (select (cmpi .slt I (broadcastInDim S4096x1 ![] bcast_S_S4096x1 (constantI S_ 32 0#32)))
    (addi I (broadcastInDim S4096x1 ![] bcast_S_S4096x1 (constantI S_ 32 16#32))) I) shapeCasts_S4096x1_S4096x1x1
def idx2 : IVec S4096x1x1 32 :=
  select (cmpi .slt (broadcastInDim S4096x1x1 ![0, 1] bcast_S4096x1_S4096x1x1_0_1 I) (broadcastInDim S4096x1x1 ![] bcast_S_S4096x1x1 (constantI S_ 32 0#32)))
    (addi (broadcastInDim S4096x1x1 ![0, 1] bcast_S4096x1_S4096x1x1_0_1 I) (broadcastInDim S4096x1x1 ![] bcast_S_S4096x1x1 (constantI S_ 32 16#32)))
    (broadcastInDim S4096x1x1 ![0, 1] bcast_S4096x1_S4096x1x1_0_1 I)
/-- Which lookups are within range, place by place, -/
def ok1 : IVec S4096x1x1 1 :=
  andi (cmpi .sge J (broadcastInDim S4096x1x1 ![] bcast_S_S4096x1x1 (constantI S_ 32 0#32)))
    (cmpi .sle J (broadcastInDim S4096x1x1 ![0, 1, 2] bcast_S1x1x1_S4096x1x1_0_1_2 (broadcastInDim S1x1x1 ![2] bcast_S1_S1x1x1_2 (constantI S1 32 15#32))))
/-- and token by token. -/
def ok : IVec S4096x1 1 := Host.reduce IntOp.andi (ok1 J) (constantI S_ 1 1#1) reducesTo_S4096x1x1_S4096x1_d2 h_S_

/-- The share of the expert each token takes, and that expert's product. -/
def share : FVec Ideal S4096x1 .f32 :=
  select (ok (idx1 I)) (Host.gather gather_S4096x16_S4096x1x1_S4096x1_n_1_0_0_1_2_11 (probs X R) (idx1 I))
    (broadcastInDim S4096x1 ![] bcast_S_S4096x1 (constant S_ .f32 0x7FC00000#32))
def taken : FVec Ideal S4096x1x512 .f32 :=
  select (broadcastInDim S4096x1x512 ![0, 1] bcast_S4096x1_S4096x1x512_0_1 (ok (idx2 I)))
    (Host.gather gather_S4096x16x512_S4096x1x1_S4096x1x512_2_1_0_0_1_2_11512 (prods X E) (idx2 I))
    (broadcastInDim S4096x1x512 ![] bcast_S_S4096x1x512 (constant S_ .f32 0x7FC00000#32))
/-- The result. -/
def out : FVec Ideal S4096x512 .f32 :=
  addf (Host.dotGeneral dot_S4096x256_S256x512_S4096x512_1_0_0_1_n_n none X S)
    (mulf (broadcastInDim S4096x512 ![0, 1] bcast_S4096x1_S4096x512_0_1 (share X R I)) (shapeCast _ (taken X I E) shapeCasts_S4096x1x512_S4096x512))

end Defs

/-- The run's result is this one. -/
theorem res_eq (m : (ℓ : Loc nD τ sig) → Buf (Elt Ideal) ℓ) (c : Dev nD) :
    Value.res_out0 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## At an index -/

section At

variable (X : FVec Ideal S4096x256 .f32) (R : FVec Ideal S256x16 .f32) (I : IVec S4096x1 32)
  (E : FVec Ideal S16x256x512 .f32) (S : FVec Ideal S256x512 .f32) (J : IVec S4096x1x1 32)
  (t : Fin 4096) (e : Fin 16) (h : Fin 512)

theorem exps_at : exps X R (ix2 t e)
    = Ideal.exp (∑ k, X (ix2 t k) * R (ix2 k e) - Finset.univ.fold max (Ideal.ofBits .f32 4286578688#32) (fun e' : Fin 16 => ∑ k, X (ix2 t k) * R (ix2 k e'))) := by
  pointwise [exps, scores]

theorem probs_at : probs X R (ix2 t e) = Ideal.div (exps X R (ix2 t e)) (∑ e', exps X R (ix2 t e')) := by
  pointwise [probs]

theorem prods_at : prods X E (ix3 t e h) = ∑ k, X (ix2 t k) * E (ix3 e k h) := by
  pointwise [prods]

theorem idx1_at : idx1 I (ix3 t 0 0) = Scalar.select (IntOp.cmpi .slt (I (ix2 t 0)) 0#32) (IntOp.addi (I (ix2 t 0)) 16#32) (I (ix2 t 0)) := by
  pointwise [idx1]
theorem idx2_at : idx2 I (ix3 t 0 0) = Scalar.select (IntOp.cmpi .slt (I (ix2 t 0)) 0#32) (IntOp.addi (I (ix2 t 0)) 16#32) (I (ix2 t 0)) := by
  pointwise [idx2]
theorem ok1_at : ok1 J (ix3 t 0 0) = IntOp.andi (IntOp.cmpi .sge (J (ix3 t 0 0)) 0#32) (IntOp.cmpi .sle (J (ix3 t 0 0)) 15#32) := by
  pointwise [ok1]

/-- A word that names an expert is taken as it stands, -/
theorem wrap_eq : Scalar.select (IntOp.cmpi .slt (BitVec.ofNat 32 e.val) 0#32) (IntOp.addi (BitVec.ofNat 32 e.val) 16#32) (BitVec.ofNat 32 e.val)
    = BitVec.ofNat 32 e.val := by
  revert e; decide
/-- is in range, -/
theorem range_eq : IntOp.andi (IntOp.cmpi .sge (BitVec.ofNat 32 e.val) 0#32) (IntOp.cmpi .sle (BitVec.ofNat 32 e.val) 15#32) = 1#1 := by
  revert e; decide
/-- and clamped is itself. -/
theorem clamp_eq : min (BitVec.ofNat 32 e.val).toInt.toNat 15 + 0 + 0 = e.val := by
  revert e; decide

/-- The lookup of a token's share, -/
theorem gather2_at (P : FVec Ideal S4096x16 .f32) (hJ : J (ix3 t 0 0) = BitVec.ofNat 32 e.val) :
    Host.gather gather_S4096x16_S4096x1x1_S4096x1_n_1_0_0_1_2_11 P J (ix2 t 0) = P (ix2 t e) := by
  refine congrArg P ?_
  have hs : gather_S4096x16_S4096x1x1_S4096x1_n_1_0_0_1_2_11.siIdx (ix2 t 0) ⟨0, by decide⟩ = ix3 t 0 0 := by
    funext b; fin_cases b <;> rfl
  funext a
  refine Fin.ext ?_
  fin_cases a
  · change 0 + t.val + 0 = t.val; omega
  · change min (J (gather_S4096x16_S4096x1x1_S4096x1_n_1_0_0_1_2_11.siIdx (ix2 t 0) ⟨0, by decide⟩)).toInt.toNat 15 + 0 + 0 = e.val
    rw [hs, hJ]; exact clamp_eq e
/-- and of its product. -/
theorem gather3_at (P : FVec Ideal S4096x16x512 .f32) (hJ : J (ix3 t 0 0) = BitVec.ofNat 32 e.val) :
    Host.gather gather_S4096x16x512_S4096x1x1_S4096x1x512_2_1_0_0_1_2_11512 P J (ix3 t 0 h) = P (ix3 t e h) := by
  refine congrArg P ?_
  have hs : gather_S4096x16x512_S4096x1x1_S4096x1x512_2_1_0_0_1_2_11512.siIdx (ix3 t 0 h) ⟨0, by decide⟩ = ix3 t 0 0 := by
    funext b; fin_cases b <;> rfl
  funext a
  refine Fin.ext ?_
  fin_cases a
  · change 0 + t.val + 0 = t.val; omega
  · change min (J (gather_S4096x16x512_S4096x1x1_S4096x1x512_2_1_0_0_1_2_11512.siIdx (ix3 t 0 h) ⟨0, by decide⟩)).toInt.toNat 15 + 0 + 0 = e.val
    rw [hs, hJ]; exact clamp_eq e
  · change 0 + 0 + h.val = h.val; omega

/-- Where every index names an expert, every lookup is in range. -/
theorem ok_at (hJ : ∀ t : Fin 4096, ∃ e : Fin 16, J (ix3 t 0 0) = BitVec.ofNat 32 e.val) : ok J (ix2 t 0) = 1#1 := by
  refine Host.reduce_andi_one _ _ _ _ _ rfl fun i => ?_
  have hi : i = ix3 (i 0) 0 0 := by
    funext a; fin_cases a
    · rfl
    · exact Subsingleton.elim (α := Fin 1) _ _
    · exact Subsingleton.elim (α := Fin 1) _ _
  obtain ⟨e, he⟩ := hJ (i 0)
  rw [hi]
  refine (ok1_at J (i 0)).trans ?_
  rw [he]; exact range_eq e

/-- The result at token `t` and column `h`, the token taking expert `e`. -/
theorem out_at (hI : ∀ t : Fin 4096, ∃ e : Fin 16, I (ix2 t 0) = BitVec.ofNat 32 e.val) (he : I (ix2 t 0) = BitVec.ofNat 32 e.val) :
    out X R I E S (ix2 t h) = (∑ k, X (ix2 t k) * S (ix2 k h)) + probs X R (ix2 t e) * ∑ k, X (ix2 t k) * E (ix3 e k h) := by
  have h1 : ∀ (t : Fin 4096) (e : Fin 16), I (ix2 t 0) = BitVec.ofNat 32 e.val → idx1 I (ix3 t 0 0) = BitVec.ofNat 32 e.val := fun t e q => by
    rw [idx1_at, q]; exact wrap_eq e
  have h2 : ∀ (t : Fin 4096) (e : Fin 16), I (ix2 t 0) = BitVec.ofNat 32 e.val → idx2 I (ix3 t 0 0) = BitVec.ofNat 32 e.val := fun t e q => by
    rw [idx2_at, q]; exact wrap_eq e
  have o1 := ok_at (idx1 I) t fun t => (hI t).imp (h1 t)
  have o2 := ok_at (idx2 I) t fun t => (hI t).imp (h2 t)
  have s1 : share X R I (ix2 t 0) = probs X R (ix2 t e) := by
    rw [← gather2_at (idx1 I) t e (probs X R) (h1 t e he)]
    change Scalar.select (ok (idx1 I) (ix2 t 0)) _ _ = _
    rw [o1]; rfl
  have s2 : taken X I E (ix3 t 0 h) = prods X E (ix3 t e h) := by
    rw [← gather3_at (idx2 I) t e h (prods X E) (h2 t e he)]
    have hb : broadcastInDim S4096x1x512 ![0, 1] bcast_S4096x1_S4096x1x512_0_1 (ok (idx2 I)) (ix3 t 0 h) = ok (idx2 I) (ix2 t 0) := by
      pointwise []
    change Scalar.select (broadcastInDim S4096x1x512 ![0, 1] bcast_S4096x1_S4096x1x512_0_1 (ok (idx2 I)) (ix3 t 0 h)) _ _ = _
    rw [hb, o2]; rfl
  rw [← prods_at, ← s1, ← s2]
  pointwise [out]

end At

end Cert.Moe.Ref

end
-- ==== Proof.Share.lean ====
/-
  Facts of the extended reals: where the scores are real, a token's share of an expert is a real number that is not
  negative, so it comes out of a sum; and a sum that selects one term is that term.
-/
module

public import Idealize.ShloMosaic.Lib.Pointwise

@[expose] public section

noncomputable section

namespace Cert.Moe

open Idealize.ShloMosaic

/-- A sum of real numbers, taken among the extended ones. -/
theorem coe_sum {n : ℕ} (g : Fin n → ℝ) : ((∑ k, g k : ℝ) : EReal) = ∑ k, (g k : EReal) := by
  induction (Finset.univ : Finset (Fin n)) using Finset.induction_on with
  | empty => simp
  | insert a s ha ih => rw [Finset.sum_insert ha, Finset.sum_insert ha, EReal.coe_add, ih]

/-- So a sum of real numbers is real. -/
theorem sum_real {n : ℕ} (f : Fin n → EReal) (hf : ∀ k, ∃ r : ℝ, f k = r) : ∃ r : ℝ, ∑ k, f k = r := by
  choose g hg using hf
  exact ⟨∑ k, g k, by rw [coe_sum]; exact Finset.sum_congr rfl fun k _ => hg k⟩

/-- A product of real numbers is real. -/
theorem mul_real {a b : EReal} (ha : ∃ r : ℝ, a = r) (hb : ∃ r : ℝ, b = r) : ∃ r : ℝ, a * b = r := by
  obtain ⟨x, rfl⟩ := ha
  obtain ⟨y, rfl⟩ := hb
  exact ⟨x * y, rfl⟩

/-- A number whose size is below infinity is real. -/
theorem real_of_abs {a : EReal} (h : max a (-a) < ⊤) : ∃ r : ℝ, a = r := by
  induction a with
  | bot => simp at h
  | coe r => exact ⟨r, rfl⟩
  | top => simp at h

/-- The largest of sixteen real numbers is real. -/
theorem max_real (f : Fin 16 → EReal) (hf : ∀ e, ∃ r : ℝ, f e = r) : ∃ r : ℝ, Finset.univ.fold max (Ideal.ofBits .f32 4286578688#32) f = r := by
  have hb : Ideal.ofBits .f32 4286578688#32 = (⊥ : EReal) := by simp [Ideal.ofBits, Ideal.ieee]
  rw [hb]
  obtain ⟨e, _, he⟩ := Finset.exists_mem_eq_sup Finset.univ ⟨(0 : Fin 16), Finset.mem_univ _⟩ f
  obtain ⟨r, hr⟩ := hf e
  exact ⟨r, (he.trans hr : _)⟩

/-- The exponential of a difference of real numbers is a positive real. -/
theorem exp_real {a b : EReal} (ha : ∃ r : ℝ, a = r) (hb : ∃ r : ℝ, b = r) : ∃ r : ℝ, 0 < r ∧ Ideal.exp (a - b) = r := by
  obtain ⟨x, rfl⟩ := ha
  obtain ⟨y, rfl⟩ := hb
  exact ⟨Real.exp (x - y), Real.exp_pos _, rfl⟩

/-- A positive real's part of a sum of sixteen is real and not negative. -/
theorem share_real (f : Fin 16 → EReal) (hf : ∀ e, ∃ r : ℝ, 0 < r ∧ f e = r) (e : Fin 16) : ∃ q : ℝ, 0 ≤ q ∧ Ideal.div (f e) (∑ e', f e') = q := by
  choose g hp hg using hf
  have hs : ∑ e', f e' = ((∑ e', g e' : ℝ) : EReal) := by rw [coe_sum]; exact Finset.sum_congr rfl fun k _ => hg k
  have hpos : 0 < ∑ e', g e' := Finset.sum_pos (fun k _ => hp k) ⟨e, Finset.mem_univ _⟩
  refine ⟨g e * (∑ e', g e')⁻¹, by have := hp e; positivity, ?_⟩
  rw [hs, hg e]
  unfold Ideal.div
  rw [if_neg (by exact_mod_cast hpos.ne')]
  rfl

/-- A real number that is not negative comes out of a sum. -/
theorem mul_sum_real {n : ℕ} (q : ℝ) (hq : 0 ≤ q) (f : Fin n → EReal) : (q : EReal) * ∑ k, f k = ∑ k, (q : EReal) * f k := by
  induction (Finset.univ : Finset (Fin n)) using Finset.induction_on with
  | empty => simp
  | insert a s ha ih => rw [Finset.sum_insert ha, Finset.sum_insert ha, EReal.left_distrib_of_nonneg_of_ne_top (EReal.coe_nonneg.2 hq) (EReal.coe_ne_top q), ih]

/-- Two words that name experts are equal just when the experts are. -/
theorem pick_eq (e e' : Fin 16) (a b : EReal) :
    Scalar.select (IntOp.cmpi .eq (BitVec.ofNat 32 e.val) (BitVec.ofNat 32 e'.val)) a b = if e = e' then a else b := by
  have h : IntOp.cmpi .eq (BitVec.ofNat 32 e.val) (BitVec.ofNat 32 e'.val) = if e = e' then 1#1 else 0#1 := by
    revert e e'; decide
  rw [h]
  split <;> rfl

end Cert.Moe

end
-- ==== Proof.Sums.lean ====
/-
  The kernel's values over the extended reals, read at an index: what the body loads is the device's argument buffers, a
  travelling tile is an expert's weights on the device it came from, and the result is the shared product plus sixteen parts,
  one for each expert.
-/
module

public import proofs.«01_k».proof.Proof.Moves
public import Idealize.ShloMosaic.Lib.Pointwise

@[expose] public section

noncomputable section

namespace Cert.Moe

open Cert.KernelIdeal Cert.KernelIdeal.Gen
open Idealize.ShloMosaic Idealize.ShloMosaic.TcCoe

/-! ## What the body loads -/

section Loads

variable {F : FTy → Type} [FloatOps F] (m : (ℓ : Loc nD τ sig) → Buf (Elt F) ℓ) (c : Dev nD)

/-- Each argument is staged whole. -/
theorem stX_eq : stX m c = m ((c : Thread nD τ).loc main_arg0) :=
  Memref.read_access_unit_zero (Elt F) main_arg0 (funext fun a => by fin_cases a <;> decide) (fun a => by fin_cases a <;> decide) _
theorem stR_eq : stR m c = m ((c : Thread nD τ).loc main_arg1) :=
  Memref.read_access_unit_zero (Elt F) main_arg1 (funext fun a => by fin_cases a <;> decide) (fun a => by fin_cases a <;> decide) _
theorem stI_eq : stI m c = m ((c : Thread nD τ).loc main_arg2) :=
  Memref.read_access_unit_zero (Elt F) main_arg2 (funext fun a => by fin_cases a <;> decide) (fun a => by fin_cases a <;> decide) _
theorem stE_eq : stE m c = m ((c : Thread nD τ).loc main_arg3) :=
  Memref.read_access_unit_zero (Elt F) main_arg3 (funext fun a => by fin_cases a <;> decide) (fun a => by fin_cases a <;> decide) _
theorem stS_eq : stS m c = m ((c : Thread nD τ).loc main_arg4) :=
  Memref.read_access_unit_zero (Elt F) main_arg4 (funext fun a => by fin_cases a <;> decide) (fun a => by fin_cases a <;> decide) _

end Loads

/-! ## The tiles -/

/-- Where tile `s` of direction `w` stands among its device's four experts. -/
def nth (w : Bool) (s : Fin 2) : Fin 4 := ⟨cond w 0 2 + s.val, by revert w s; decide⟩

/-- A place of a tile, in the buffer. -/
theorem slot_emb (j : Fin 4) (s : Fin 2) (k : Fin 256) (h : Fin 512) : (slotR j s).emb (ix4 0 0 k h) = ix4 j s k h := by
  funext a
  refine Fin.ext ?_
  fin_cases a
  · change j.val + 1 * 0 = j.val; omega
  · change s.val + 1 * 0 = s.val; omega
  · change 0 + 1 * k.val = k.val; omega
  · change 0 + 1 * h.val = h.val; omega

/-- The same place with the slot forgotten. -/
theorem rowOf_ix (j : Fin 4) (s : Fin 2) (k : Fin 256) (h : Fin 512) : rowOf (ix4 j s k h) = ix4 0 s k h := by
  funext a
  fin_cases a <;> rfl

/-- The two halves of the experts, as they are loaded. -/
theorem low_emb (s : Fin 2) (k : Fin 256) (h : Fin 512) : lowR.emb (ix3 s k h) = ix3 (nth true s) k h := by
  funext a
  refine Fin.ext ?_
  fin_cases a
  · change 0 + 1 * s.val = 0 + s.val; omega
  · change 0 + 1 * k.val = k.val; omega
  · change 0 + 1 * h.val = h.val; omega
theorem high_emb (s : Fin 2) (k : Fin 256) (h : Fin 512) : highR.emb (ix3 s k h) = ix3 (nth false s) k h := by
  funext a
  refine Fin.ext ?_
  fin_cases a
  · change 2 + 1 * s.val = 2 + s.val; omega
  · change 0 + 1 * k.val = k.val; omega
  · change 0 + 1 * h.val = h.val; omega

variable (m : (ℓ : Loc nD τ sig) → Buf (Elt Ideal) ℓ)

/-- A tile is the weights of one expert of the device that the copies brought it from. -/
theorem tile_at (w : Bool) (j : Fin 4) (s : Fin 2) (c : Dev nD) (k : Fin 256) (h : Fin 512) :
    tile m w j s c (ix4 0 0 k h) = stE m (back w j c) (ix3 (nth w s) k h) := by
  unfold tile ring
  rw [slot_emb, rowOf_ix]
  change own m w (back w j c) (ix4 0 s k h) = _
  cases w
  · pointwise [own, k0_pay2]
    exact congrArg (stE m (back false j c)) (high_emb s k h)
  · pointwise [own, k0_pay1]
    exact congrArg (stE m (back true j c)) (low_emb s k h)

/-! ## One step of the sum -/

section Steps

variable (X : FVec Ideal S1024x256 .f32) (I : IVec S1024x1 32) (P : FVec Ideal S1024x1 .f32)

/-- What a tile adds to token `t`'s result at column `h`, where the tile is expert number `v`'s. -/
def part (v : BitVec 32) (T : FVec Ideal S1x1x256x512 .bf16) (t : Fin 1024) (h : Fin 512) : EReal :=
  ∑ k : Fin 256, Scalar.select (IntOp.cmpi .eq (I (ix2 t 0)) v) (X (ix2 t k) * P (ix2 t 0) * T (ix4 0 0 k h)) 0

variable (U : FVec Ideal S1024x16 .f32) (a : FVec Ideal S1024x512 .f32) (v v' v'' : BitVec 32)
  (T T' T'' : FVec Ideal S1x1x256x512 .bf16) (S : FVec Ideal S256x512 .f32) (t : Fin 1024) (h : Fin 512)

theorem pay7_at : k0_pay7 v X I U T (ix2 t h)
    = part X I (k0_pay6 I U) (Scalar.addi (Scalar.muli (Scalar.remsi (Scalar.addi (Scalar.subi v 0#32) 4#32) 4#32) 4#32) 0#32) T t h := by
  pointwise [k0_pay7, part]
theorem pay11_at : k0_pay11 X I P v v' a (k0_pay8 T) (k0_pay9 v'' I) (k0_pay10 (F := Ideal)) T' T'' (ix2 t h)
    = a (ix2 t h)
      + part X I P (Scalar.addi (Scalar.addi (Scalar.muli (Scalar.remsi (Scalar.addi v'' 0#32) 4#32) 4#32) 2#32) 0#32) T t h
      + part X I P (Scalar.addi (Scalar.muli v 4#32) 1#32) T' t h
      + part X I P (Scalar.addi (Scalar.addi (Scalar.muli v' 4#32) 2#32) 1#32) T'' t h := by
  pointwise [k0_pay11, part, k0_pay8, k0_pay9, k0_pay10]
theorem pay12_at : k0_pay12 X I P a v T (ix2 t h) = a (ix2 t h) + part X I P (Scalar.addi (Scalar.muli v 4#32) 0#32) T t h := by
  pointwise [k0_pay12, part]
theorem pay13_at : k0_pay13 X I P a v T (ix2 t h) = a (ix2 t h) + part X I P (Scalar.addi (Scalar.addi v 2#32) 0#32) T t h := by
  pointwise [k0_pay13, part]
theorem pay14_at : k0_pay14 X I P v a v' v'' T T' S (ix2 t h)
    = a (ix2 t h) + part X I P (Scalar.addi v' v'') T t h
      + part X I P (Scalar.addi (Scalar.addi (Scalar.muli v 4#32) 2#32) 1#32) T' t h + ∑ k : Fin 256, X (ix2 t k) * S (ix2 k h) := by
  pointwise [k0_pay14, part]
theorem pay15_at : k0_pay15 X I P a v v' T T' (ix2 t h)
    = a (ix2 t h) + part X I P v' T t h + part X I P (Scalar.addi (Scalar.addi (Scalar.muli v 4#32) 2#32) 0#32) T' t h := by
  pointwise [k0_pay15, part]
theorem pay16_at : k0_pay16 X I P v v' a T T' (ix2 t h)
    = a (ix2 t h) + part X I P (Scalar.addi (Scalar.muli v 4#32) 1#32) T t h
      + part X I P (Scalar.addi (Scalar.addi (Scalar.muli v' 4#32) 2#32) 1#32) T' t h := by
  pointwise [k0_pay16, part]
theorem pay17_at : k0_pay17 X I P a v v' T T' (ix2 t h)
    = a (ix2 t h) + part X I P (Scalar.addi (Scalar.muli v 4#32) 0#32) T t h
      + part X I P (Scalar.addi (Scalar.addi (Scalar.muli v' 4#32) 2#32) 0#32) T' t h := by
  pointwise [k0_pay17, part]
theorem pay20_at : k0_pay20 X I P v a (k0_pay18 T) (k0_pay19 I P v') T' (ix2 t h)
    = a (ix2 t h) + part X I P (Scalar.addi (Scalar.muli v' 4#32) 1#32) T t h
      + part X I P (Scalar.addi (Scalar.addi (Scalar.muli v 4#32) 2#32) 1#32) T' t h := by
  pointwise [k0_pay20, part, k0_pay18, k0_pay19]

end Steps

/-! ## The whole sum -/

/-- The number, among all sixteen, of the expert whose weights tile `s` in slot `j` is on device `c`. -/
def num (w : Bool) (j : Fin 4) (s : Fin 2) (c : Dev nD) : Fin 16 :=
  ⟨4 * (back w j c).val + (nth w s).val, by have := (back w j c).isLt; have := (nth w s).isLt; change (back w j c).val < 4 at *; omega⟩

/-- The body computes that number. -/
theorem num_cw (j : Fin 4) (s : Fin 2) (c : Dev nD) :
    Scalar.addi (Scalar.muli (wCw (BitVec.ofNat 32 j.val) c) 4#32) (BitVec.ofNat 32 s.val) = BitVec.ofNat 32 (num true j s c).val := by
  revert j s c; decide
theorem num_ccw (j : Fin 4) (s : Fin 2) (c : Dev nD) :
    Scalar.addi (Scalar.addi (Scalar.muli (wCcw (BitVec.ofNat 32 j.val) c) 4#32) 2#32) (BitVec.ofNat 32 s.val)
      = BitVec.ofNat 32 (num false j s c).val := by
  revert j s c; decide

/-- The part one tile gives device `c`. -/
def term (w : Bool) (j : Fin 4) (s : Fin 2) (c : Dev nD) (t : Fin 1024) (h : Fin 512) : EReal :=
  part (vX m c) (vI m c) (vP m c) (BitVec.ofNat 32 (num w j s c).val) (tile m w j s c) t h

/-- The same part, of the word the body computes. -/
theorem term_cw (j : Fin 4) (s : Fin 2) (c : Dev nD) (t : Fin 1024) (h : Fin 512) :
    part (vX m c) (vI m c) (vP m c) (Scalar.addi (Scalar.muli (wCw (BitVec.ofNat 32 j.val) c) 4#32) (BitVec.ofNat 32 s.val))
      (tile m true j s c) t h = term m true j s c t h := by
  rw [num_cw]; rfl
theorem term_ccw (j : Fin 4) (s : Fin 2) (c : Dev nD) (t : Fin 1024) (h : Fin 512) :
    part (vX m c) (vI m c) (vP m c) (Scalar.addi (Scalar.addi (Scalar.muli (wCcw (BitVec.ofNat 32 j.val) c) 4#32) 2#32) (BitVec.ofNat 32 s.val))
      (tile m false j s c) t h = term m false j s c t h := by
  rw [num_ccw]; rfl

/-- What the body writes, in the order it adds. -/
theorem outAt_at (c : Dev nD) (t : Fin 1024) (h : Fin 512) : outAt m c (ix2 t h)
    = term m true 0 0 c t h + term m false 0 0 c t h + term m true 0 1 c t h + term m false 0 1 c t h
      + term m true 1 0 c t h + term m false 1 0 c t h + term m true 1 1 c t h + term m false 1 1 c t h
      + (∑ k : Fin 256, vX m c (ix2 t k) * stS m c (ix2 k h))
      + term m true 2 0 c t h + term m false 2 0 c t h + term m true 2 1 c t h + term m false 2 1 c t h
      + term m true 3 0 c t h + term m false 3 0 c t h + term m true 3 1 c t h + term m false 3 1 c t h := by
  unfold outAt sum15 sum13 sum11 sum9 sum6 sum5 sum4 sum1
  rw [pay20_at, pay17_at, pay16_at, pay15_at, pay14_at, pay13_at, pay12_at, pay11_at, pay7_at]
  simp only [← term_cw, ← term_ccw]
  rfl

/-- All sixteen experts' weights, wherever they are. -/
def allE (e : Fin 16) (k : Fin 256) (h : Fin 512) : EReal :=
  stE m ⟨e.val / 4, by change e.val / 4 < 4; omega⟩ (ix3 (⟨e.val % 4, by omega⟩ : Fin 4) k h)

/-- The part of expert `e`. -/
def expTerm (c : Dev nD) (t : Fin 1024) (h : Fin 512) (e : Fin 16) : EReal :=
  ∑ k : Fin 256, Scalar.select (IntOp.cmpi .eq (vI m c (ix2 t 0)) (BitVec.ofNat 32 e.val))
    (vX m c (ix2 t k) * vP m c (ix2 t 0) * allE m e k h) 0

/-- A tile's part is its expert's. -/
theorem term_eq (w : Bool) (j : Fin 4) (s : Fin 2) (c : Dev nD) (t : Fin 1024) (h : Fin 512) :
    term m w j s c t h = expTerm m c t h (num w j s c) := by
  unfold term part expTerm
  refine Finset.sum_congr rfl fun k _ => ?_
  have e : tile m w j s c (ix4 0 0 k h) = allE m (num w j s c) k h := by
    rw [tile_at]
    have hb : (back w j c).val < 4 := (back w j c).isLt
    have hn : (nth w s).val < 4 := (nth w s).isLt
    refine congr (congrArg (stE m) (Fin.ext ?_)) (congrArg (fun z => ix3 z k h) (Fin.ext ?_))
    · change (back w j c).val = (4 * (back w j c).val + (nth w s).val) / 4; omega
    · change (nth w s).val = (4 * (back w j c).val + (nth w s).val) % 4; omega
  rw [e]

/-- Every expert comes to a device in just one tile. -/
theorem num_all (c : Dev nD) : Function.Bijective fun q : Bool × Fin 4 × Fin 2 => num q.1 q.2.1 q.2.2 c := by
  refine (Fintype.bijective_iff_injective_and_card _).2 ⟨?_, rfl⟩
  revert c; decide

/-- The kernel's result: the shared product and one part for each expert. -/
theorem outAt_sum (c : Dev nD) (t : Fin 1024) (h : Fin 512) : outAt m c (ix2 t h)
    = (∑ k : Fin 256, vX m c (ix2 t k) * stS m c (ix2 k h)) + ∑ e : Fin 16, expTerm m c t h e := by
  rw [outAt_at, ← (num_all c).sum_comp fun e => expTerm m c t h e]
  simp only [Fintype.sum_prod_type, Fintype.sum_bool, Fin.sum_univ_four, Fin.sum_univ_two, ← term_eq]
  abel

end Cert.Moe

end
-- ==== Proof.Value.lean ====
/-
  The value: over the extended reals, where the tokens and the router's weights are finite and every token names an expert,
  each device's result is its block of the reference's.
-/
module

public import proofs.«01_k».proof.Defs
public import proofs.«01_k».proof.Proof.Gen.Pre_finite_and_routed_KernelIdeal
public import proofs.«01_k».proof.Proof.Run
public import proofs.«01_k».proof.Proof.Ref
public import proofs.«01_k».proof.Proof.Share
public import proofs.«01_k».proof.Proof.Sums

@[expose] public section

noncomputable section

namespace Cert.Moe

open Idealize.ShloMosaic Idealize.ShloMosaic.TcCoe Idealize.SL.Sem

/-! ## The precondition, read -/

section Pre

open Cert.Pre_finite_and_routed_KernelIdeal Cert.Pre_finite_and_routed_KernelIdeal.Gen

attribute [local instance] Cert.Pre_finite_and_routed_KernelIdeal.Gen.facts

variable (X : FVec Ideal S1024x256 .f32) (R : FVec Ideal S256x16 .f32) (I : IVec S1024x1 32)
  (E : FVec Ideal S4x256x512 .f32) (S : FVec Ideal S256x512 .f32)

/-- A comparison with infinity that holds says the number is real. -/
theorem real_of_lt (a : EReal) (h : BitVec.ofBool (decide (max a (-a) < Ideal.ofBits .f32 0x7F800000#32)) = 1#1) : ∃ r : ℝ, a = r := by
  have ht : Ideal.ofBits .f32 0x7F800000#32 = (⊤ : EReal) := by simp [Ideal.ofBits, Ideal.ieee]
  rw [ht] at h
  refine real_of_abs ?_
  by_contra hn
  rw [decide_eq_false hn] at h
  exact absurd h (by decide)

/-- The tokens are real, -/
theorem pre_X (h : (fn X R I E S).1 = fun _ => 1#1) (t : Fin 1024) (k : Fin 256) : ∃ r : ℝ, X (ix2 t k) = r := by
  refine real_of_lt _ (Eq.trans ?_ (congrFun h (ix2 t k)))
  pointwise [fn]
  rfl
/-- the router's weights are, -/
theorem pre_R (h : (fn X R I E S).2.1 = fun _ => 1#1) (k : Fin 256) (e : Fin 16) : ∃ r : ℝ, R (ix2 k e) = r := by
  refine real_of_lt _ (Eq.trans ?_ (congrFun h (ix2 k e)))
  pointwise [fn]
  rfl
/-- and every token names an expert. -/
theorem pre_I (h : (fn X R I E S).2.2 = fun _ => 1#1) (t : Fin 1024) : ∃ e : Fin 16, I (ix2 t 0) = BitVec.ofNat 32 e.val := by
  have h' : IntOp.andi (IntOp.cmpi .sge (I (ix2 t 0)) 0#32) (IntOp.cmpi .slt (I (ix2 t 0)) 16#32) = 1#1 := by
    refine Eq.trans ?_ (congrFun h (ix2 t 0))
    pointwise [fn]
  generalize I (ix2 t 0) = i at h'
  obtain ⟨h0, h1⟩ := IntOp.andi_eq_one.1 h'
  have h0 := IntOp.cmpi_sge.1 h0
  have h1 := IntOp.cmpi_slt.1 h1
  rw [show (0#32 : BitVec 32).toInt = 0 from by decide] at h0
  rw [show (16#32 : BitVec 32).toInt = 16 from by decide] at h1
  have hi := i.isLt
  rw [BitVec.toInt_eq_toNat_cond] at h0 h1
  have hn : i.toNat < 16 := by split at h0 <;> omega
  exact ⟨⟨i.toNat, hn⟩, by rw [BitVec.ofNat_toNat, BitVec.setWidth_eq]⟩

end Pre

/-! ## The equation -/

section Equation

open Cert.KernelIdeal Cert.KernelIdeal.Gen

/-- Token `t` of device `c`, among all the tokens. -/
def row (c : Dev nD) (t : Fin 1024) : Fin 4096 := ⟨c.val * 1024 + t.val, by have : c.val < 4 := c.isLt; omega⟩

/-- Every token is some device's. -/
theorem row_all (T : Fin 4096) : ∃ c t, row c t = T :=
  ⟨⟨T.val / 1024, by change T.val / 1024 < 4; omega⟩, ⟨T.val % 1024, by omega⟩, Fin.ext (by change T.val / 1024 * 1024 + T.val % 1024 = T.val; omega)⟩

variable (m : (ℓ : Loc nD τ sig) → Buf (Elt Ideal) ℓ)
  (X : FVec Ideal ReferenceIdeal.S4096x256 .f32) (R : FVec Ideal S256x16 .f32) (I : IVec ReferenceIdeal.S4096x1 32)
  (E : FVec Ideal ReferenceIdeal.S16x256x512 .f32) (S : FVec Ideal S256x512 .f32)

/-- The devices' arrays are the parts of the whole ones. -/
structure Agrees : Prop where
  tokens : ∀ c t k, stX m c (ix2 t k) = X (ix2 (row c t) k)
  router : ∀ c, stR m c = R
  routes : ∀ c t, stI m c (ix2 t 0) = I (ix2 (row c t) 0)
  experts : ∀ e k h, allE m e k h = E (ix3 e k h)
  shared : ∀ c, stS m c = S

/-- The tokens and the router's weights are real, and every token names an expert. -/
structure Tame : Prop where
  tokens : ∀ T k, ∃ r : ℝ, X (ix2 T k) = r
  router : ∀ k e, ∃ r : ℝ, R (ix2 k e) = r
  routes : ∀ T : Fin 4096, ∃ e : Fin 16, I (ix2 T 0) = BitVec.ofNat 32 e.val

variable {m X R I E S}

/-- The body takes the tokens and the routes as they are staged. -/
theorem vX_at (c : Dev nD) (t : Fin 1024) (k : Fin 256) : vX m c (ix2 t k) = stX m c (ix2 t k) := by
  unfold vX
  generalize stX m c = x
  revert x
  intro (x : FVec Ideal S1024x256 .f32)
  pointwise [k0_pay3]
theorem vI_at (c : Dev nD) (t : Fin 1024) : vI m c (ix2 t 0) = stI m c (ix2 t 0) := by
  unfold vI
  generalize stI m c = x
  revert x
  intro (x : IVec S1024x1 32)
  pointwise [k0_pay4]

/-- The device's exponentials are the reference's. -/
theorem exps_eq (ha : Agrees m X R I E S) (c : Dev nD) (t : Fin 1024) (e : Fin 16) : vU m c (ix2 t e) = Ref.exps X R (ix2 (row c t) e) := by
  rw [Ref.exps_at]
  unfold vU
  rw [ha.router c]
  simp only [← ha.tokens]
  generalize stX m c = x
  revert x
  intro (x : FVec Ideal S1024x256 .f32)
  pointwise [k0_pay5, k0_pay3]

/-- A device's share of the expert a token takes is the reference's. -/
theorem share_eq (ha : Agrees m X R I E S) (c : Dev nD) (t : Fin 1024) (e : Fin 16) (he : I (ix2 (row c t) 0) = BitVec.ofNat 32 e.val) :
    vP m c (ix2 t 0) = Ref.probs X R (ix2 (row c t) e) := by
  have h : vP m c (ix2 t 0) = ∑ x : Fin 16, Scalar.select (IntOp.cmpi .eq (BitVec.ofNat 32 x.val) (vI m c (ix2 t 0)))
      (Ideal.div (vU m c (ix2 t x)) (∑ x', vU m c (ix2 t x'))) 0 := by
    unfold vP
    generalize vI m c = i, vU m c = u
    pointwise [k0_pay6]
  have hi : vI m c (ix2 t 0) = BitVec.ofNat 32 e.val := (vI_at c t).trans ((ha.routes c t).trans he)
  rw [h, Ref.probs_at, hi]
  simp only [pick_eq, exps_eq ha]
  rw [Finset.sum_ite_eq' Finset.univ e]
  simp

/-- A share is a real number that is not negative. -/
theorem share_nonneg (ht : Tame X R I) (T : Fin 4096) (e : Fin 16) : ∃ q : ℝ, 0 ≤ q ∧ Ref.probs X R (ix2 T e) = q := by
  rw [Ref.probs_at]
  have hs : ∀ e' : Fin 16, ∃ r : ℝ, ∑ k, X (ix2 T k) * R (ix2 k e') = r := fun e' =>
    sum_real _ fun k => mul_real (ht.tokens T k) (ht.router k e')
  refine share_real (fun e' => Ref.exps X R (ix2 T e')) (fun e' => ?_) e
  rw [Ref.exps_at]
  exact exp_real (hs e') (max_real _ hs)

/-- Each device computes its rows of the reference's result. -/
theorem out_eq (ha : Agrees m X R I E S) (ht : Tame X R I) (c : Dev nD) (t : Fin 1024) (h : Fin 512) :
    outAt m c (ix2 t h) = Ref.out X R I E S (ix2 (row c t) h) := by
  obtain ⟨e, he⟩ := ht.routes (row c t)
  obtain ⟨q, hq, hp⟩ := share_nonneg ht (row c t) e
  have hi : vI m c (ix2 t 0) = BitVec.ofNat 32 e.val := (vI_at c t).trans ((ha.routes c t).trans he)
  have hx : ∀ k, vX m c (ix2 t k) = X (ix2 (row c t) k) := fun k => (vX_at c t k).trans (ha.tokens c t k)
  rw [outAt_sum, Ref.out_at X R I E S (row c t) e h ht.routes he, hp, mul_sum_real q hq]
  refine congr (congrArg _ (Finset.sum_congr rfl fun k _ => by rw [hx, ha.shared])) ?_
  have hterm : ∀ e', expTerm m c t h e' = if e = e' then ∑ k : Fin 256, vX m c (ix2 t k) * vP m c (ix2 t 0) * allE m e' k h else 0 := fun e' => by
    unfold expTerm
    simp only [hi, pick_eq]
    split
    · rfl
    · exact Finset.sum_const_zero
  simp only [hterm]
  rw [Finset.sum_ite_eq Finset.univ e, if_pos (Finset.mem_univ e)]
  refine Finset.sum_congr rfl fun k _ => ?_
  rw [share_eq ha c t e he, hp, hx, ha.experts, mul_comm (X (ix2 (row c t) k)) (q : EReal), mul_assoc]

end Equation

/-! ## The claim -/

/-- An index of rank two is its coordinates. -/
theorem ix2_eta {a b : ℕ} (i : (⟨2, ![a, b]⟩ : Shape).Idx) : ix2 (i 0) (i 1) = i := by
  funext x; fin_cases x <;> rfl

/-- A block of whole rows, at its coordinates. -/
theorem block_rows {α : Type} {w : ℕ} (hT : Layout.Tiles ⟨2, ![1024, w]⟩ ⟨2, ![4096, w]⟩ 0 4) (c : Fin 4) (v : (⟨2, ![4096, w]⟩ : Shape).Idx → α)
    (t : Fin 1024) (k : Fin w) : Layout.block ⟨2, ![1024, w]⟩ ⟨2, ![4096, w]⟩ 0 4 c v hT (ix2 t k) = v (ix2 (row c t) k) := by
  refine congrArg v ?_
  funext a
  refine Fin.ext ?_
  fin_cases a <;> rfl

/-- A block of whole experts, at its coordinates. -/
theorem block_experts {α : Type} (hT : Layout.Tiles ⟨3, ![4, 256, 512]⟩ ⟨3, ![16, 256, 512]⟩ 0 4) (v : (⟨3, ![16, 256, 512]⟩ : Shape).Idx → α)
    (e : Fin 16) (k : Fin 256) (h : Fin 512) :
    Layout.block ⟨3, ![4, 256, 512]⟩ ⟨3, ![16, 256, 512]⟩ 0 4 ⟨e.val / 4, by omega⟩ v hT (ix3 (⟨e.val % 4, by omega⟩ : Fin 4) k h) = v (ix3 e k h) := by
  refine congrArg v ?_
  funext a
  refine Fin.ext ?_
  fin_cases a
  · change e.val / 4 * 4 + e.val % 4 = e.val; omega
  · rfl
  · rfl

/-- Where the tokens and the router's weights are finite and every token names an expert, the kernel's result is the reference's. -/
theorem value : Cert.algebraic_KernelIdeal_ReferenceIdeal_pre_finite_and_routed_KernelIdeal (hKernelIdeal := Cert.KernelIdeal.Gen.facts)
    (hReferenceIdeal := Cert.ReferenceIdeal.Gen.facts) (hPre_finite_and_routed_KernelIdeal := Cert.Pre_finite_and_routed_KernelIdeal.Gen.facts) := by
  intro m g m' g' hpre hag
  let X : FVec Ideal ReferenceIdeal.S4096x256 .f32 := m' (((0 : Dev ReferenceIdeal.nD).tc : Thread ReferenceIdeal.nD ReferenceIdeal.τ).loc ReferenceIdeal.main_arg0)
  let R : FVec Ideal KernelIdeal.S256x16 .f32 := m' (((0 : Dev ReferenceIdeal.nD).tc : Thread ReferenceIdeal.nD ReferenceIdeal.τ).loc ReferenceIdeal.main_arg1)
  let I : IVec ReferenceIdeal.S4096x1 32 := m' (((0 : Dev ReferenceIdeal.nD).tc : Thread ReferenceIdeal.nD ReferenceIdeal.τ).loc ReferenceIdeal.main_arg2)
  let E : FVec Ideal ReferenceIdeal.S16x256x512 .f32 := m' (((0 : Dev ReferenceIdeal.nD).tc : Thread ReferenceIdeal.nD ReferenceIdeal.τ).loc ReferenceIdeal.main_arg3)
  let S : FVec Ideal KernelIdeal.S256x512 .f32 := m' (((0 : Dev ReferenceIdeal.nD).tc : Thread ReferenceIdeal.nD ReferenceIdeal.τ).loc ReferenceIdeal.main_arg4)
  have ha : Agrees m X R I E S :=
    { tokens := fun c t k => (congrFun ((stX_eq m c).trans (hag c).1) (ix2 t k)).trans (block_rows _ c X t k)
      router := fun c => (stR_eq m c).trans (hag c).2.1
      routes := fun c t => (congrFun ((stI_eq m c).trans (hag c).2.2.1) (ix2 t 0)).trans (block_rows _ c I t 0)
      experts := fun e k h => (congrFun ((stE_eq m _).trans (hag _).2.2.2.1) _).trans (block_experts _ E e k h)
      shared := fun c => (stS_eq m c).trans (hag c).2.2.2.2 }
  have ht : Tame X R I :=
    { tokens := fun T k => by
        obtain ⟨c, t, rfl⟩ := row_all T
        rw [← ha.tokens c t k, stX_eq]
        exact pre_X _ _ _ _ _ (hpre c).1 t k
      router := fun k e => by
        rw [← ha.router 0, stR_eq]
        exact pre_R _ _ _ _ _ (hpre 0).2.1 k e
      routes := fun T => by
        obtain ⟨c, t, rfl⟩ := row_all T
        rw [← ha.routes c t, stI_eq]
        exact pre_I _ _ _ _ _ (hpre c).2.2 t }
  have hout : ∀ c, outAt m c = Layout.block ⟨2, ![1024, 512]⟩ ⟨2, ![4096, 512]⟩ 0 4 c (Ref.out X R I E S) := fun c => by
    funext i
    obtain ⟨t, h, rfl⟩ : ∃ (t : Fin 1024) (h : Fin 512), i = ix2 t h := ⟨i 0, i 1, (ix2_eta i).symm⟩
    exact (out_eq ha ht c t h).trans (block_rows _ c _ t h).symm
  refine ⟨Ref.out X R I E S, ?_, ?_⟩
  · refine (θ_run Cert.KernelIdeal.defs _ _).mono (fun r h c => ?_) (run_main (F := Ideal) m g)
    exact ⟨((h.1 c (5 : Fin 6)).trans (final_out m c)).trans (hout c), (h.1 c (0 : Fin 6)).trans (final_arg m c 0 rfl),
      (h.1 c (1 : Fin 6)).trans (final_arg m c 1 rfl), (h.1 c (2 : Fin 6)).trans (final_arg m c 2 rfl),
      (h.1 c (3 : Fin 6)).trans (final_arg m c 3 rfl), (h.1 c (4 : Fin 6)).trans (final_arg m c 4 rfl)⟩
  · refine (θ_run Cert.ReferenceIdeal.defs _ _).mono (fun r h => ?_) (Cert.ReferenceIdeal.Value.run (F := Ideal) m' g')
    exact ⟨(h 0).1.trans (Ref.res_eq m' 0), (h 0).2⟩

end Cert.Moe

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_and_routed_KernelIdeal
public import proofs.«01_k».proof.Proof.Gen.Pre_finite_and_routed_ReferenceIdeal
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_finite_and_routed_KernelIdeal.Gen.facts, Cert.Pre_finite_and_routed_ReferenceIdeal.Gen.facts,
  Moe.frame_kernel, Moe.frame_ideal, fun m ρ _ => Moe.frame_ideal m ρ trivial, Moe.frame_reference,
  fun m ρ _ => Moe.frame_reference m ρ trivial, trivial, Moe.value⟩

end Cert.Proof

end
